-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_leading_distinct [hKernelIdeal : Cert.KernelIdeal.Facts] [hReferenceIdeal : Cert.ReferenceIdeal.Facts] [hOn_leading_distinct : Cert.On_leading_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![256, 4096]⟩ (Layout.meshBlock [2, 4, 4] ![[], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 8]⟩ : Shape).Idx, (Cert.On_leading_distinct.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![256, 8]⟩ : Shape).Idx, (Cert.On_leading_distinct.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_leading_distinct : Cert.On_leading_distinct.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_leading_distinct (hKernelIdeal := hKernelIdeal) (hReferenceIdeal := hReferenceIdeal) (hOn_leading_distinct := hOn_leading_distinct)
-- ==== On_leading_distinct.lean ====
abbrev S256x4096 : Shape := ⟨2, ![256, 4096]⟩
abbrev S256x8 : Shape := ⟨2, ![256, 8]⟩
abbrev S256x8x7 : Shape := ⟨3, ![256, 8, 7]⟩
abbrev S256x7 : Shape := ⟨2, ![256, 7]⟩
abbrev S256x1x7 : Shape := ⟨3, ![256, 1, 7]⟩
abbrev S_ : Shape := ⟨0, ![]⟩

class Facts : Prop where
  slices_S256x4096_S256x8_0_0 : S256x4096.Slices ![0, 0] S256x8
  slices_S256x8_S256x7_0_0 : S256x8.Slices ![0, 0] S256x7
  bcast_S256x7_S256x1x7_0_2 : S256x7.BroadcastsInDim S256x1x7 (![0, 2] : Fin 2 → Fin S256x1x7.rank)
  bcast_S256x1x7_S256x8x7_0_1_2 : S256x1x7.BroadcastsInDim S256x8x7 (![0, 1, 2] : Fin 3 → Fin S256x8x7.rank)
  slices_S256x8_S256x7_0_1 : S256x8.Slices ![0, 1] S256x7
  bcast_S_S256x8x7 : S_.BroadcastsInDim S256x8x7 (![] : Fin 0 → Fin S256x8x7.rank)
  reducesTo_S256x8x7_S256x8_d2 : S256x8x7.ReducesTo [2] S256x8
  h_S_ : 0 < S_.numel
  bcast_S_S256x8 : S_.BroadcastsInDim S256x8 (![] : Fin 0 → Fin S256x8.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S256x4096 .f32) : FVec F S256x4096 .f32 :=
  let v0 : FVec F S256x4096 .f32 := (fun x => Host.sort S256x4096 1 comparator_f32_d1 x) arg0
  v0

def fn {F : FTy → Type} [FloatOps F] (main_arg0 : FVec F S256x4096 .f32) : IVec S256x8 1 :=
  let main_v0 : FVec F S256x4096 .f32 := Host.negf main_arg0
  let main_v1 : FVec F S256x4096 .f32 := fn_sort (F := F) main_v0
  let main_v2 : FVec F S256x8 .f32 := (extractStridedSlice S256x8 ![0, 0] · slices_S256x4096_S256x8_0_0) main_v1
  let main_v3 : IVec S256x8x7 32 := iotaInDim S256x8x7 32 1
  let main_v4 : IVec S256x8x7 32 := iotaInDim S256x8x7 32 2
  let main_v5 : FVec F S256x7 .f32 := (extractStridedSlice S256x7 ![0, 0] · slices_S256x8_S256x7_0_0) main_v2
  let main_v6 : FVec F S256x1x7 .f32 := broadcastInDim S256x1x7 ![0, 2] bcast_S256x7_S256x1x7_0_2 main_v5
  let main_v7 : FVec F S256x8x7 .f32 := broadcastInDim S256x8x7 ![0, 1, 2] bcast_S256x1x7_S256x8x7_0_1_2 main_v6
  let main_v8 : FVec F S256x7 .f32 := (extractStridedSlice S256x7 ![0, 1] · slices_S256x8_S256x7_0_1) main_v2
  let main_v9 : FVec F S256x1x7 .f32 := broadcastInDim S256x1x7 ![0, 2] bcast_S256x7_S256x1x7_0_2 main_v8
  let main_v10 : FVec F S256x8x7 .f32 := broadcastInDim S256x8x7 ![0, 1, 2] bcast_S256x1x7_S256x8x7_0_1_2 main_v9
  let main_v11 : IVec S256x8x7 1 := cmpf .une main_v7 main_v10
  let main_cst : FVec F S_ .f32 := constant S_ .f32 0x7F800000#32
  let main_v12 : FVec F S256x8x7 .f32 := broadcastInDim S256x8x7 ![] bcast_S_S256x8x7 main_cst
  let main_v13 : IVec S256x8x7 1 := cmpf .oeq main_v7 main_v12
  let main_v14 : IVec S256x8x7 1 := ori main_v11 main_v13
  let main_v15 : IVec S256x8x7 1 := cmpi .sge main_v4 main_v3
  let main_v16 : IVec S256x8x7 1 := ori main_v14 main_v15
  let main_c : IVec S_ 1 := constantI S_ 1 1#1
  let main_v17 : IVec S256x8 1 := (fun x v => Host.reduce IntOp.andi x v reducesTo_S256x8x7_S256x8_d2 h_S_) main_v16 main_c
  let main_cst_0 : FVec F S_ .f32 := constant S_ .f32 0x7F800000#32
  let main_v18 : FVec F S256x8 .f32 := broadcastInDim S256x8 ![] bcast_S_S256x8 main_cst_0
  let main_v19 : IVec S256x8 1 := cmpf .oeq main_v2 main_v18
  let main_v20 : IVec S256x8 1 := ori main_v17 main_v19
  main_v20
-- ==== Kernel.lean ====
abbrev S256x1024 : Shape := ⟨2, ![256, 1024]⟩
abbrev S256x8 : Shape := ⟨2, ![256, 8]⟩
abbrev S4x8x256 : Shape := ⟨3, ![4, 8, 256]⟩
abbrev S3 : Shape := ⟨1, ![3]⟩
abbrev S_ : Shape := ⟨0, ![]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S256x4 : Shape := ⟨2, ![256, 4]⟩
abbrev S256x12 : Shape := ⟨2, ![256, 12]⟩
abbrev S256x2 : Shape := ⟨2, ![256, 2]⟩
abbrev S256x6 : Shape := ⟨2, ![256, 6]⟩
abbrev S8x256 : Shape := ⟨2, ![8, 256]⟩
abbrev S1x8x256 : Shape := ⟨3, ![1, 8, 256]⟩
abbrev S1 : Shape := ⟨1, ![1]⟩
abbrev S32x256 : Shape := ⟨2, ![32, 256]⟩
abbrev S1x256 : Shape := ⟨2, ![1, 256]⟩

abbrev nBuf : Space → Nat
  | .hbm => 2
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x8, .f32⟩
  | .local _ .vmem, ⟨0, _⟩ => ⟨S256x1024, .f32⟩
  | .local _ .vmem, ⟨1, _⟩ => ⟨S256x8, .f32⟩
  | .local _ .vmem, ⟨2, _⟩ => ⟨S4x8x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v21 : BitVec 32 := Scalar.muli v2 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_dev4 (d0 : Dev nD) : Nat :=
  let c0_i32_121 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_120 : BitVec 32 := 16#32
  let v306 : BitVec 32 := Scalar.muli v2 c16_i32_120
  let v307 : BitVec 32 := Scalar.addi c0_i32_121 v306
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_122 : BitVec 32 := 4#32
  let v308 : BitVec 32 := Scalar.muli v5 c4_i32_122
  let v309 : BitVec 32 := Scalar.addi v307 v308
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v295 : BitVec 32 := Scalar.addi v8 c1_i32_109
  let c4_i32_110 : BitVec 32 := 4#32
  let c0_i32_111 : BitVec 32 := 0#32
  let v296 : BitVec 1 := Scalar.cmpi .eq c4_i32_110 c0_i32_111
  let c1_i32_112 : BitVec 32 := 1#32
  let v297 : BitVec 32 := Scalar.select v296 c1_i32_112 c4_i32_110
  let v298 : BitVec 32 := Scalar.remsi v295 v297
  let c0_i32_114 : BitVec 32 := 0#32
  let v300 : BitVec 1 := Scalar.cmpi .slt v298 c0_i32_114
  let c0_i32_115 : BitVec 32 := 0#32
  let v301 : BitVec 1 := Scalar.cmpi .slt v297 c0_i32_115
  let v302 : BitVec 1 := Scalar.xori v300 v301
  let c0_i32_113 : BitVec 32 := 0#32
  let v299 : BitVec 1 := Scalar.cmpi .ne v298 c0_i32_113
  let v303 : BitVec 1 := Scalar.andi v302 v299
  let v304 : BitVec 32 := Scalar.addi v298 v297
  let v305 : BitVec 32 := Scalar.select v303 v304 v298
  let c1_i32_123 : BitVec 32 := 1#32
  let v310 : BitVec 32 := Scalar.muli v305 c1_i32_123
  let v311 : BitVec 32 := Scalar.addi v309 v310
  v311.toNat
def k0_dev5 (d0 : Dev nD) : Nat :=
  let c0_i32_140 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_139 : BitVec 32 := 16#32
  let v331 : BitVec 32 := Scalar.muli v2 c16_i32_139
  let v332 : BitVec 32 := Scalar.addi c0_i32_140 v331
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_141 : BitVec 32 := 4#32
  let v333 : BitVec 32 := Scalar.muli v5 c4_i32_141
  let v334 : BitVec 32 := Scalar.addi v332 v333
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_128 : BitVec 32 := 2#32
  let v320 : BitVec 32 := Scalar.addi v8 c2_i32_128
  let c4_i32_129 : BitVec 32 := 4#32
  let c0_i32_130 : BitVec 32 := 0#32
  let v321 : BitVec 1 := Scalar.cmpi .eq c4_i32_129 c0_i32_130
  let c1_i32_131 : BitVec 32 := 1#32
  let v322 : BitVec 32 := Scalar.select v321 c1_i32_131 c4_i32_129
  let v323 : BitVec 32 := Scalar.remsi v320 v322
  let c0_i32_133 : BitVec 32 := 0#32
  let v325 : BitVec 1 := Scalar.cmpi .slt v323 c0_i32_133
  let c0_i32_134 : BitVec 32 := 0#32
  let v326 : BitVec 1 := Scalar.cmpi .slt v322 c0_i32_134
  let v327 : BitVec 1 := Scalar.xori v325 v326
  let c0_i32_132 : BitVec 32 := 0#32
  let v324 : BitVec 1 := Scalar.cmpi .ne v323 c0_i32_132
  let v328 : BitVec 1 := Scalar.andi v327 v324
  let v329 : BitVec 32 := Scalar.addi v323 v322
  let v330 : BitVec 32 := Scalar.select v328 v329 v323
  let c1_i32_142 : BitVec 32 := 1#32
  let v335 : BitVec 32 := Scalar.muli v330 c1_i32_142
  let v336 : BitVec 32 := Scalar.addi v334 v335
  v336.toNat
def k0_dev6 (d0 : Dev nD) : Nat :=
  let c0_i32_159 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_158 : BitVec 32 := 16#32
  let v356 : BitVec 32 := Scalar.muli v2 c16_i32_158
  let v357 : BitVec 32 := Scalar.addi c0_i32_159 v356
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_160 : BitVec 32 := 4#32
  let v358 : BitVec 32 := Scalar.muli v5 c4_i32_160
  let v359 : BitVec 32 := Scalar.addi v357 v358
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_147 : BitVec 32 := 3#32
  let v345 : BitVec 32 := Scalar.addi v8 c3_i32_147
  let c4_i32_148 : BitVec 32 := 4#32
  let c0_i32_149 : BitVec 32 := 0#32
  let v346 : BitVec 1 := Scalar.cmpi .eq c4_i32_148 c0_i32_149
  let c1_i32_150 : BitVec 32 := 1#32
  let v347 : BitVec 32 := Scalar.select v346 c1_i32_150 c4_i32_148
  let v348 : BitVec 32 := Scalar.remsi v345 v347
  let c0_i32_152 : BitVec 32 := 0#32
  let v350 : BitVec 1 := Scalar.cmpi .slt v348 c0_i32_152
  let c0_i32_153 : BitVec 32 := 0#32
  let v351 : BitVec 1 := Scalar.cmpi .slt v347 c0_i32_153
  let v352 : BitVec 1 := Scalar.xori v350 v351
  let c0_i32_151 : BitVec 32 := 0#32
  let v349 : BitVec 1 := Scalar.cmpi .ne v348 c0_i32_151
  let v353 : BitVec 1 := Scalar.andi v352 v349
  let v354 : BitVec 32 := Scalar.addi v348 v347
  let v355 : BitVec 32 := Scalar.select v353 v354 v348
  let c1_i32_161 : BitVec 32 := 1#32
  let v360 : BitVec 32 := Scalar.muli v355 c1_i32_161
  let v361 : BitVec 32 := Scalar.addi v359 v360
  v361.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x4096 : Shape := ⟨2, ![256, 4096]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S256x4096, .i32⟩
  | .hbm, ⟨3, _⟩ => ⟨S256x4096, .f32⟩
  | .hbm, ⟨4, _⟩ => ⟨S256x4096, .i32⟩
  | .hbm, ⟨5, _⟩ => ⟨S256x8, .i32⟩
  | .hbm, ⟨6, _⟩ => ⟨S_, .i32⟩
  | .hbm, ⟨7, _⟩ => ⟨S256x8, .i32⟩
  | .hbm, ⟨8, _⟩ => ⟨S256x8, .i1⟩
  | .hbm, ⟨9, _⟩ => ⟨S_, .i32⟩
  | .hbm, ⟨10, _⟩ => ⟨S256x8, .i32⟩
  | .hbm, ⟨11, _⟩ => ⟨S256x8, .i32⟩
  | .hbm, ⟨12, _⟩ => ⟨S256x8, .i32⟩
  | .hbm, ⟨13, _⟩ => ⟨S256x8x1, .i32⟩
  | .hbm, ⟨14, _⟩ => ⟨S1, .i32⟩
  | .hbm, ⟨15, _⟩ => ⟨S_, .i32⟩
  | .hbm, ⟨16, _⟩ => ⟨S256x8x1, .i32⟩
  | .hbm, ⟨17, _⟩ => ⟨S256x8x1, .i1⟩
  | .hbm, ⟨18, _⟩ => ⟨S1x1x1, .i32⟩
  | .hbm, ⟨19, _⟩ => ⟨S256x8x1, .i32⟩
  | .hbm, ⟨20, _⟩ => ⟨S256x8x1, .i1⟩
  | .hbm, ⟨21, _⟩ => ⟨S256x8x1, .i1⟩
  | .hbm, ⟨22, _⟩ => ⟨S_, .i1⟩
  | .hbm, ⟨23, _⟩ => ⟨S256x8, .i1⟩
  | .hbm, ⟨24, _⟩ => ⟨S256x8, .f32⟩
  | .hbm, ⟨25, _⟩ => ⟨S_, .f32⟩
  | .hbm, ⟨26, _⟩ => ⟨S256x8, .f32⟩
  | .hbm, ⟨27, _⟩ => ⟨S256x8, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.KernelIdealRing.lean ====
/-
The exchange of the four devices of a mesh row, as a schedule of rounds.

Each device `c` shares its row of the mesh with three others. It meets them at a barrier, sends each of them its own
eight candidates of every row, and reads the four sets of candidates that lie in its scratch buffer afterwards.
This module names the neighbours, the four slots of the scratch buffer, what those slots hold in the end, and who
hands what to whom: the duties of every semaphore and their payloads.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Ring
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state a run starts from: any memory, all counters at zero. -/
def s₀ : MemSt nD τ sig (Elt F) := ⟨m, fun _ => 0, ρ⟩

/-! ## Neighbours -/

set_option backward.proofsInPublic true in
/-- The device `j + 1` places after `c` in its row of the mesh. -/
def up (j : Fin 3) (c : Dev nD) : Dev nD := ⟨c.val / 4 * 4 + (c.val % 4 + (j.val + 1)) % 4, by have : c.val < 32 := c.isLt; show _ < 32; omega⟩

/-- Going `j + 1` places on and then the remaining places of the row comes back. -/
theorem up_rev_up (j : Fin 3) (c : Dev nD) : up j.rev (up j c) = c := by
  have h : j.rev.val = 2 - j.val := by rw [Fin.val_rev]; omega
  have : c.val < 32 := c.isLt; have := j.isLt
  apply Fin.ext; simp only [up, h]; omega

theorem up_up_rev (j : Fin 3) (c : Dev nD) : up j (up j.rev c) = c := by
  have := up_rev_up j.rev c; rwa [Fin.rev_rev] at this

/-- Stepping along the row is a permutation of the devices. -/
def turn (j : Fin 3) : Dev nD ≃ Dev nD := ⟨up j, up j.rev, up_rev_up j, up_up_rev j⟩

theorem up_eq_iff (j : Fin 3) (c d : Dev nD) : c = up j d ↔ d = up j.rev c :=
  ⟨fun h => by rw [h, up_rev_up], fun h => by rw [h, up_up_rev]⟩

/-- The device whose candidates slot `s` of `c` holds in the end: `c` itself for slot 0, else the one `s` places before. -/
def origin : Fin 4 → Dev nD → Dev nD := Fin.cons id fun j c => up j.rev c

theorem dev1_eq (c : Dev nD) : (⟨k0_dev1 c, k0_dev1_lt c⟩ : Dev nD) = up 0 c := by revert c; decide +kernel
theorem dev2_eq (c : Dev nD) : (⟨k0_dev2 c, k0_dev2_lt c⟩ : Dev nD) = up 1 c := by revert c; decide +kernel
theorem dev3_eq (c : Dev nD) : (⟨k0_dev3 c, k0_dev3_lt c⟩ : Dev nD) = up 2 c := by revert c; decide +kernel
theorem dev4_eq (c : Dev nD) : (⟨k0_dev4 c, k0_dev4_lt c⟩ : Dev nD) = up 0 c := by revert c; decide +kernel
theorem dev5_eq (c : Dev nD) : (⟨k0_dev5 c, k0_dev5_lt c⟩ : Dev nD) = up 1 c := by revert c; decide +kernel
theorem dev6_eq (c : Dev nD) : (⟨k0_dev6 c, k0_dev6_lt c⟩ : Dev nD) = up 2 c := by revert c; decide +kernel

/-! ## Buffers, slots and semaphores -/

abbrev xM : Memref sig .tc .vmem S256x1024 .f32 := Memref.whole cc0_stg0_0
abbrev oM : Memref sig .tc .vmem S256x8 .f32 := Memref.whole cc0_stg1_0
abbrev kM : Memref sig .tc .vmem S4x8x256 .f32 := Memref.whole cc0_scratch0

theorem slot_inb (s : Fin 4) : ∀ a, (![s.val, 0, 0] : Fin 3 → Nat) a + S1x8x256.size a ≤ S4x8x256.size a := by
  revert s; decide

/-- The rectangle of slot `s` of the scratch buffer, -/
abbrev slotR (s : Fin 4) : Rect S4x8x256 := Rect.unit (s := S4x8x256) ![s.val, 0, 0] S1x8x256.size (slot_inb s)
/-- and the slot as the transfers name it. -/
abbrev slot (s : Fin 4) : Memref sig .tc .vmem S8x256 .f32 :=
  (kM.slice (slotR s) (fun _ => rfl)).squeeze S8x256 squeezes_S1x8x256_S8x256

theorem sem_inb (j : Fin 3) : ∀ a, (![j.val] : Fin 1 → Nat) a + S1.size a ≤ S3.size a := by revert j; decide

abbrev barS : Sem sig := (SemArray.scalar (sig.barrier 0 rfl) : Sems sig S_).sem
abbrev sendS (j : Fin 3) : DmaSem sig := ((cc0_scratch1.slice (Rect.unit (s := S3) ![j.val] S1.size (sem_inb j))).squeeze S_ squeezes_S1_S_).sem
abbrev recvS (j : Fin 3) : DmaSem sig := ((cc0_scratch2.slice (Rect.unit (s := S3) ![j.val] S1.size (sem_inb j))).squeeze S_ squeezes_S1_S_).sem

/-- The seven semaphores of a device: its barrier, the three of its sends, the three of its arrivals. -/
abbrev Which : Type := Option (Bool × Fin 3)

abbrev csem : Which → SemLoc sig
  | none => .reg barS
  | some (false, j) => .dma (sendS j)
  | some (true, j) => .dma (recvS j)

abbrev kcell (ck : Dev nD × Which) : GSem nD τ sig := ((ck.1 : Thread nD τ), csem ck.2)

abbrev barCell (c : Dev nD) : GSem nD τ sig := ((c : Thread nD τ), .reg barS)
abbrev sendCell (j : Fin 3) (c : Dev nD) : GSem nD τ sig := ((c : Thread nD τ), .dma (sendS j))
abbrev recvCell (j : Fin 3) (c : Dev nD) : GSem nD τ sig := ((c : Thread nD τ), .dma (recvS j))

/-- All seven, in a list. -/
abbrev allW : List Which :=
  [none, some (false, 0), some (false, 1), some (false, 2), some (true, 0), some (true, 1), some (true, 2)]

/-- Which of the seven a semaphore is, if any. -/
def who (sm : SemLoc sig) : Option Which := allW.find? fun k => decide (csem k = sm)

theorem who_csem (k : Which) : who (csem k) = some k := by revert k; decide

theorem csem_inj : Function.Injective csem := fun a b h =>
  Option.some.inj ((who_csem a).symm.trans ((congrArg who h).trans (who_csem b)))

theorem kcell_inj : Function.Injective kcell := by
  rintro ⟨c, k⟩ ⟨c', k'⟩ h
  have h₁ : c = c' := congrArg (fun g : GSem nD τ sig => g.1.1) h
  have h₂ : k = k' := csem_inj (congrArg Prod.snd h)
  rw [h₁, h₂]

theorem kcell_eq_iff {c c' : Dev nD} {k k' : Which} : kcell (c, k) = kcell (c', k') ↔ c = c' ∧ k = k' := by
  rw [kcell_inj.eq_iff, Prod.mk.injEq]

/-- The credit of one slot's transfer. -/
abbrev N : ℕ := (slot 0).view.dmaCredit
theorem N_pos : 0 < N := View.dmaCredit_pos _ (by decide)

/-! ## Where a slot lies -/

theorem slot_emb (s : Fin 4) (z : S8x256.Idx) :
    (slot s).view.emb z = (slotR s).emb (Fin.cons ⟨0, Nat.one_pos⟩ z) := by
  show (((View.whole cc0_scratch0).slice _).reshape S8x256 _).emb z = _
  rw [View.emb_reshape, View.emb_slice, View.emb_whole]
  show (slotR s).emb (Shape.reshapeEquiv _ z) = _
  rw [Shape.reshapeEquiv_cons_one]

theorem slot_set (s : Fin 4) : (slot s).view.set = (slotR s).set := by
  show (((View.whole cc0_scratch0).slice _).reshape S8x256 _).set = _
  rw [View.set_reshape, View.set_slice_whole]

/-- An element of the scratch buffer lies in slot `s` when its first coordinate is `s`. -/
theorem mem_slotR (s : Fin 4) (i : S4x8x256.Idx) : i ∈ (slotR s).set ↔ (i 0).val = s.val := by
  rw [Rect.mem_set_unit]
  have h1 : (i 1).val < 8 := (i 1).isLt
  have h2 : (i 2).val < 256 := (i 2).isLt
  constructor
  · intro h
    have h0 := h 0
    simp at h0
    omega
  · intro h a
    fin_cases a <;> simp <;> omega

/-- The elements of the scratch buffer in slot `s`. -/
abbrev slotSet (s : Fin 4) : Finset S4x8x256.Idx := (slot s).view.set

theorem slots_disjoint (s s' : Fin 4) (h : s ≠ s') : Disjoint (slotSet s) (slotSet s') := by
  unfold slotSet
  rw [slot_set, slot_set, Finset.disjoint_left]
  intro i hi hi'
  exact h (Fin.ext (((mem_slotR s i).mp hi).symm.trans ((mem_slotR s' i).mp hi')))

theorem slots_cover : Finset.univ.biUnion slotSet = Finset.univ := by
  ext i
  simp only [Finset.mem_biUnion, Finset.mem_univ, true_and, iff_true]
  exact ⟨i 0, (Finset.ext_iff.mp (slot_set (i 0)) i).mpr ((mem_slotR (i 0) i).mpr rfl)⟩

/-! ## Contents -/

/-- A device's candidates of its block: the kernel's arithmetic from the loaded block to what is stored in slot 0. -/
def candOf (x : FVec F S256x1024 .f32) : FVec F S1x8x256 .f32 :=
  let v65 := k0_pay2 x
  let v68 := k0_pay3 x
  let v71 := k0_pay4 x
  let v74 := k0_pay5 v65
  let a0 := k0_pay6 v71
  let a1 := k0_pay8 v71
  let a2 := k0_pay10 v71
  let a3 := k0_pay12 v71
  let a4 := k0_pay14 v71
  let a5 := k0_pay16 v71
  let a6 := k0_pay18 v71
  let v116 := k0_pay19 v71
  let v186 := k0_pay29 (k0_pay21 v74 a0 a1 a2 a3 a4 a5 a6 v116) (k0_pay23 v74 a0 a1 a2 a3 a4 a5 a6 v116)
    (k0_pay25 v74 a0 a1 a2 a3 a4 a5 a6 v116) (k0_pay26 v74 a0 a1 a2 a3 a4 a5 a6 v116)
    (k0_pay27 v74 a0 a1 a2 a3 a4 a5 a6 v116) (k0_pay28 v74 a0 a1 a2 a3 a4 a5 a6 v116)
  let b0 := k0_pay31 v68
  let b1 := k0_pay32 v68
  let b2 := k0_pay34 v68
  let b3 := k0_pay35 v68
  let b4 := k0_pay36 v68
  let b5 := k0_pay37 v68
  let z := Scalar.ofBits .f32 0xFF800000#32
  k0_pay43 (k0_pay39 v186 b0 b1 b2 b3 b4 b5 z) (k0_pay40 v186 b0 b1 b2 b3 b4 b5 z)
    (k0_pay41 v186 b0 b1 b2 b3 b4 b5 z) (k0_pay42 v186 b0 b1 b2 b3 b4 b5 z)

/-- The result computed from the four sets of candidates. -/
def outOf (k : FVec F S4x8x256 .f32) : FVec F S256x8 .f32 :=
  k0_pay52 (k0_pay45 k) (k0_pay47 k) (k0_pay49 k) (k0_pay50 k) (k0_pay51 k)

/-- The block of `x` staged on device `c`. -/
def xstg (c : Dev nD) : (cc0_stg0_0 : Ref sig .tc).ty.Contents (Elt F) :=
  (win0_0.blk (0 : Fin 1)).view.read (Elt F) ((s₀ m ρ).mem ((c : Thread nD τ).loc main_arg0))

/-- The place in one slot of an element of the scratch buffer. -/
def inSlot (i : S4x8x256.Idx) : S1x8x256.Idx
  | 0 => (0 : Fin 1)
  | 1 => i 1
  | 2 => i 2

/-- The scratch buffer of device `c` in the end: in each slot the candidates of the slot's origin. -/
def full (c : Dev nD) : (cc0_scratch0 : Ref sig .tc).ty.Contents (Elt F) :=
  fun i => candOf (xstg m ρ (origin (i 0) c)) (inSlot i)

/-- Device `c`'s result. -/
def outAt (c : Dev nD) : (cc0_stg1_0 : Ref sig .tc).ty.Contents (Elt F) := outOf (full m ρ c)

omit [FloatOps F] in
theorem slotR_val (s : Fin 4) (y : S1x8x256.Idx) (a : Fin 3) :
    ((slotR s).emb y a).val = (![s.val, 0, 0] : Fin 3 → Nat) a + (y a).val :=
  ValueKit.rect_emb_unit_val (s := S4x8x256) ![s.val, 0, 0] S1x8x256.size (slot_inb s) y a

omit [FloatOps F] in
theorem inSlot_emb (s : Fin 4) (y : S1x8x256.Idx) : inSlot ((slotR s).emb y) = y := by
  have hy : (y 0).val = 0 := by have : (y 0).val < 1 := (y 0).isLt; omega
  funext a
  apply Fin.ext
  match a with
  | 0 => exact hy.symm
  | 1 => exact (slotR_val s y 1).trans (Nat.zero_add _)
  | 2 => exact (slotR_val s y 2).trans (Nat.zero_add _)

omit [FloatOps F] in
theorem slotR_emb_zero (s : Fin 4) (y : S1x8x256.Idx) : (slotR s).emb y 0 = s := by
  have hy : (y 0).val = 0 := by have : (y 0).val < 1 := (y 0).isLt; omega
  apply Fin.ext
  refine (slotR_val s y 0).trans ?_
  show s.val + (y 0).val = s.val
  omega

/-- In slot `s` the final contents are the origin's candidates. -/
theorem full_emb (s : Fin 4) (c : Dev nD) (y : S1x8x256.Idx) :
    full m ρ c ((slotR s).emb y) = candOf (xstg m ρ (origin s c)) y := by
  unfold full; rw [inSlot_emb, slotR_emb_zero]

/-- What a transfer of slot 0 of `c` writes into slot `j + 1` of its target is what that slot holds in the end. -/
theorem landed_eq (j : Fin 3) (c : Dev nD) (fd : (cc0_scratch0 : Ref sig .tc).ty.Contents (Elt F)) (i : S4x8x256.Idx)
    (hi : i ∈ slotSet j.succ) :
    (slot j.succ).view.write (Elt F) fd ((slot 0).view.read (Elt F) (full m ρ c)) Finset.univ i = full m ρ (up j c) i := by
  obtain ⟨z, -, rfl⟩ := Finset.mem_map.mp hi
  refine (View.write_emb_of_mem _ _ (Finset.mem_univ z)).trans ?_
  rw [View.read_apply, slot_emb, slot_emb, full_emb m ρ, full_emb m ρ]
  show candOf (xstg m ρ c) _ = candOf (xstg m ρ (up j.rev (up j c))) _
  rw [up_rev_up]

/-! ## What is handed over -/

/-- Slot `s` of device `c`, held outright, -/
def slotPts (c : Dev nD) (s : Fin 4) (f : Buf (Elt F) ((slot s).view.loc (c : Thread nD τ))) : sProp 𝕄 :=
  (slot s).view.loc (c : Thread nD τ) ↦[(slot s).view.set]{fullShare} f

/-- The shares of slot 0: one for each of the three transfers that read it, and the one kept to be read meanwhile. -/
abbrev lentShare : Fin 3 → PosShare TreeShare
  | 0 => fullShare.left
  | 1 => fullShare.right.left
  | 2 => fullShare.right.right.left
abbrev keptShare : PosShare TreeShare := fullShare.right.right.right

/-- and the part of slot 0 that transfer `j` of device `c` reads. -/
def lent (c : Dev nD) (j : Fin 3) : sProp 𝕄 :=
  (slot 0).view.loc (c : Thread nD τ) ↦[(slot 0).view.set]{lentShare j} full m ρ c

omit [FloatOps F] in
instance slotPts_storable (c : Dev nD) (s : Fin 4) (f) : BI.Storable (upEmb : UEmb _ 𝕄) (slotPts (F := F) c s f) := by
  unfold slotPts; infer_instance
instance lent_storable (c : Dev nD) (j : Fin 3) : BI.Storable (upEmb : UEmb _ 𝕄) (lent (F := F) m ρ c j) := by
  unfold lent; infer_instance

/-- With its signal a device hands over one of its slots, and that it stands before the arrival there. -/
def barPay (c : Dev nD) (j : Fin 3) : sProp 𝕄 :=
  iprop((∃ f, slotPts (up j c) j.succ f) ∗ reached ER (recvCell j (up j c)) 0)

/-- What each duty of device `c`'s semaphores hands over. -/
def payOf (c : Dev nD) : Which → Fin 3 → sProp 𝕄
  | none, d => barPay c d
  | some (true, j), _ => slotPts c j.succ (full m ρ c)
  | some (false, j), _ => lent m ρ c j

instance payOf_storable (c : Dev nD) (k : Which) (d : Fin 3) : BI.Storable (upEmb : UEmb _ 𝕄) (payOf (F := F) m ρ c k d) := by
  rcases k with _ | ⟨_ | _, j⟩
  · show BI.Storable (upEmb : UEmb _ 𝕄) (barPay c d)
    unfold barPay; infer_instance
  · exact lent_storable m ρ c j
  · exact slotPts_storable c _ _

/-- The duties of each semaphore: three at the barrier, one at each of the others. -/
def dutiesOf : Option Which → Finset (Fin 3)
  | some none => Finset.univ
  | some (some _) => {0}
  | none => ∅

/-- The exchange: a single round. The barrier of a device is paid one unit by each other device of its row, every
    other semaphore the credit of one slot. -/
def sched : Rounds.Schedule (GSem nD τ sig) (Fin 3) 𝕄 where
  duties g r := if r = 0 ∧ g.1.2 = .tc then dutiesOf (who g.2) else ∅
  unitless _ := False
  amount g _ _ := if g.2 = .reg barS then 1 else N
  payload g _ d := match who g.2 with
    | some k => payOf m ρ g.1.1 k d
    | none => iprop(emp)
  amount_pos g _ _ _ := by split <;> [exact Nat.one_pos; exact N_pos]

instance sched_payload_storable (g : GSem nD τ sig) (r : ℕ) (d : Fin 3) :
    BI.Storable (upEmb : UEmb _ 𝕄) ((sched (F := F) m ρ).payload g r d) := by
  dsimp only [sched]; split <;> infer_instance

section Sched
variable (c : Dev nD)

theorem duties_cell (k : Which) : (sched m ρ).duties (kcell (c, k)) 0 = dutiesOf (some k) := by
  dsimp only [sched]; rw [if_pos ⟨rfl, rfl⟩, who_csem]
theorem duties_bar : (sched m ρ).duties (barCell c) 0 = Finset.univ := duties_cell m ρ c none
theorem duties_send (j : Fin 3) : (sched m ρ).duties (sendCell j c) 0 = {0} := duties_cell m ρ c (some (false, j))
theorem duties_recv (j : Fin 3) : (sched m ρ).duties (recvCell j c) 0 = {0} := duties_cell m ρ c (some (true, j))
theorem duties_later (g : GSem nD τ sig) : ∀ r, 1 ≤ r → (sched m ρ).duties g r = ∅ :=
  fun r hr => if_neg fun h => by omega

theorem amount_bar (d : Fin 3) : (sched m ρ).amount (barCell c) 0 d = 1 := by dsimp only [sched]; exact if_pos rfl
theorem amount_send (j d : Fin 3) : (sched m ρ).amount (sendCell j c) 0 d = N := by
  dsimp only [sched]; exact if_neg (fun h => by cases h)
theorem amount_recv (j d : Fin 3) : (sched m ρ).amount (recvCell j c) 0 d = N := by
  dsimp only [sched]; exact if_neg (fun h => by cases h)

theorem expect_bar : (sched m ρ).expect (barCell c) 0 = 3 := by
  unfold Schedule.expect Schedule.amountOf
  rw [duties_bar, Finset.sum_congr rfl fun d _ => amount_bar m ρ c d]; rfl
theorem expect_send (j : Fin 3) : (sched m ρ).expect (sendCell j c) 0 = N := by
  unfold Schedule.expect Schedule.amountOf; rw [duties_send, Finset.sum_singleton, amount_send]
theorem expect_recv (j : Fin 3) : (sched m ρ).expect (recvCell j c) 0 = N := by
  unfold Schedule.expect Schedule.amountOf; rw [duties_recv, Finset.sum_singleton, amount_recv]

theorem payload_cell (k : Which) (d : Fin 3) : (sched m ρ).payload (kcell (c, k)) 0 d = payOf m ρ c k d := by
  dsimp only [sched]; rw [who_csem]
theorem payload_bar (d : Fin 3) : (sched m ρ).payload (barCell c) 0 d = barPay c d := payload_cell m ρ c none d
theorem payload_send (j d : Fin 3) : (sched m ρ).payload (sendCell j c) 0 d = lent m ρ c j := payload_cell m ρ c (some (false, j)) d
theorem payload_recv (j d : Fin 3) : (sched m ρ).payload (recvCell j c) 0 d = slotPts c j.succ (full m ρ c) :=
  payload_cell m ρ c (some (true, j)) d

/-- What the barrier's wait brings: a slot of each other device of the row. -/
theorem rest_bar : bigSep ((sched m ρ).duties (barCell c) 0 \ ∅) (fun d => (sched m ρ).payload (barCell c) 0 d)
    = iprop(barPay c 0 ∗ barPay c 1 ∗ barPay c 2) := by
  rw [Finset.sdiff_empty, duties_bar, bigSep_univ_eq_bigSepL [0, 1, 2] (by decide) (by decide)]
  simp only [bigSepL_cons_cons, bigSepL_singleton, payload_bar]
  rfl
theorem rest_send (j : Fin 3) : bigSep ((sched m ρ).duties (sendCell j c) 0 \ ∅) (fun d => (sched m ρ).payload (sendCell j c) 0 d)
    = lent m ρ c j := by
  rw [Finset.sdiff_empty, duties_send, bigSep_singleton, payload_send]
theorem rest_recv (j : Fin 3) : bigSep ((sched m ρ).duties (recvCell j c) 0 \ ∅) (fun d => (sched m ρ).payload (recvCell j c) 0 d)
    = slotPts c j.succ (full m ρ c) := by
  rw [Finset.sdiff_empty, duties_recv, bigSep_singleton, payload_recv]

end Sched

/-! ## Debts and their order -/

abbrev recvDue (j : Fin 3) (c : Dev nD) : CellTallies nD τ sig Unit := tallyAt (recvCell j (up j c)) () N
abbrev barDue (j : Fin 3) (c : Dev nD) : CellTallies nD τ sig Unit := tallyAt (barCell (up j c)) () 1

/-- What a device owes at launch, the transfers' credits and the signals' units, in the order that settles the last first. -/
def debt₁ (c : Dev nD) : CellTallies nD τ sig Unit := 0 + recvDue 2 c
def debt₂ (c : Dev nD) : CellTallies nD τ sig Unit := debt₁ c + recvDue 1 c
def debt₃ (c : Dev nD) : CellTallies nD τ sig Unit := debt₂ c + recvDue 0 c
def debt₄ (c : Dev nD) : CellTallies nD τ sig Unit := debt₃ c + barDue 2 c
def debt₅ (c : Dev nD) : CellTallies nD τ sig Unit := debt₄ c + barDue 1 c
def debt₆ (c : Dev nD) : CellTallies nD τ sig Unit := debt₅ c + barDue 0 c

def L (g : GSem nD τ sig) : Finset Unit := if g.1.2 = .tc then {()} else ∅

/-- Barriers come before arrivals, everything else before both. -/
def lv (g : GSem nD τ sig) (_ : Unit) : ℕ := match who g.2 with
  | some none => 1
  | some (some (true, _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by
  show (match who (csem none) with | some none => 1 | some (some (true, _)) => 2 | _ => 0) = 1
  rw [who_csem]
theorem lv_recv (j : Fin 3) (c : Dev nD) : lv (recvCell j c) () = 2 := by
  show (match who (csem (some (true, j))) with | some none => 1 | some (some (true, _)) => 2 | _ => 0) = 2
  rw [who_csem]

theorem tally_pos {g g' : GSem nD τ sig} {n : ℕ} {u : Unit} (h : 0 < (tallyAt g' () n : CellTallies nD τ sig Unit) g u) : g = g' := by
  by_contra hne
  rw [tallyAt_apply, if_neg fun h' => hne h'.1] at h
  exact Nat.lt_irrefl 0 h

theorem add_pos_or {A B : CellTallies nD τ sig Unit} {g : GSem nD τ sig} {u : Unit} (h : 0 < (A + B) g u) : 0 < A g u ∨ 0 < B g u := by
  rw [Pi.add_apply, Finsupp.add_apply] at h; omega

/-- At the barrier's wait only credits of arrivals are owed. -/
theorem debt₃_pos {c : Dev nD} {g : GSem nD τ sig} {u : Unit} (h : 0 < debt₃ c g u) : ∃ j, g = recvCell j (up j c) := by
  rcases add_pos_or h with h | h
  · rcases add_pos_or h with h | h
    · rcases add_pos_or h with h | h
      · exact absurd h (Nat.lt_irrefl 0)
      · exact ⟨2, tally_pos h⟩
    · exact ⟨1, tally_pos h⟩
  · exact ⟨0, tally_pos h⟩

theorem debt₆_pos {c : Dev nD} {g : GSem nD τ sig} {u : Unit} (h : 0 < debt₆ c g u) :
    ∃ j, g = recvCell j (up j c) ∨ g = barCell (up j c) := by
  rcases add_pos_or h with h | h
  · rcases add_pos_or h with h | h
    · rcases add_pos_or h with h | h
      · exact (debt₃_pos h).imp fun _ => Or.inl
      · exact ⟨2, .inr (tally_pos h)⟩
    · exact ⟨1, .inr (tally_pos h)⟩
  · exact ⟨0, .inr (tally_pos h)⟩

omit [FloatOps F] in
/-- The staging semaphores may be waited on whatever is owed. -/
theorem mayWait_stage (c : Dev nD) (q : DmaSem sig) (hq : who (.dma q) = none) (O : CellTallies nD τ sig Unit) (hO : O = debt₆ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨j, rfl | rfl⟩ := debt₆_pos hg <;> exact Finset.mem_singleton_self _)
      (fun p hp => by rw [Finset.mem_singleton.mp hp]; dsimp only [lv]; rw [hq])
      (fun g u hg => by
        obtain ⟨j, rfl | rfl⟩ := debt₆_pos hg
        · rw [lv_recv]; decide
        · rw [lv_bar]; decide)
  · rw [MayWait_zero]; iintro -; iempintro

omit [FloatOps F] in
/-- The barrier may be waited on while only arrivals are owed. -/
theorem mayWait_bar (c : Dev nD) : (levAts L lv : sProp 𝕄) ⊢ MayWait (c : Thread nD τ) (.reg barS) () (debt₃ c) :=
  MayOwe.of_cut (L := L) (lev := lv) 1 (fun p hp => by rw [Finset.mem_singleton.mp hp, L_tc]; exact Finset.mem_singleton_self _)
    (fun g u hg => by obtain ⟨j, rfl⟩ := debt₃_pos hg; exact Finset.mem_singleton_self _)
    (fun p hp => by rw [Finset.mem_singleton.mp hp]; exact le_of_eq (lv_bar c))
    (fun g u hg => by obtain ⟨j, rfl⟩ := debt₃_pos hg; rw [lv_recv]; decide)

end Cert.KernelIdeal.Run

end
-- ==== Proof.KernelIdealBody.lean ====
/-
One device's part of the exchange, executed symbolically.

The device signals the three others of its row, each signal handing over the slot that device will write; computes
its candidates and stores them in slot 0; waits for the three signals; sends slot 0 to each other device, lending a
share of it to each transfer; waits for its own three arrivals; reads all four slots (slot 0 at the share it kept);
writes its result; and waits until its transfers have given the lent shares back.
-/
module

public import proofs.«01_k».proof.Proof.KernelIdealRing

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Slots and shares -/

/-- A buffer's elements held outright are held at the four shares at once. -/
theorem four_shares {ℓ : Loc nD τ sig} (I : Finset (Idx ℓ)) (f : Buf (Elt F) ℓ) :
    (ℓ ↦[I]{fullShare} f : sProp 𝕄)
      = iprop((ℓ ↦[I]{lentShare 0} f) ∗ (ℓ ↦[I]{lentShare 1} f) ∗ (ℓ ↦[I]{lentShare 2} f) ∗ (ℓ ↦[I]{keptShare} f)) := by
  have cut (q : PosShare TreeShare) : (ℓ ↦[I]{q} f : sProp 𝕄) = iprop((ℓ ↦[I]{q.left} f) ∗ (ℓ ↦[I]{q.right} f)) :=
    BI.Entails.antisymm (pointsTo_share (PosShare.mem_left_op_right q)).1 (pointsTo_share (PosShare.mem_left_op_right q)).2
  rw [cut fullShare, cut fullShare.right, cut fullShare.right.right]

/-- The four slots side by side. -/
theorem bigSep_slots (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_three (Φ : Fin 3 → sProp 𝕄) : bigSep Finset.univ Φ = iprop(Φ 0 ∗ Φ 1 ∗ Φ 2) :=
  bigSep_univ_eq_bigSepL [0, 1, 2] (by decide) (by decide) Φ

theorem bigSep_which (Φ : Which → sProp 𝕄) : bigSep Finset.univ Φ
    = iprop(Φ none ∗ Φ (some (false, 0)) ∗ Φ (some (false, 1)) ∗ Φ (some (false, 2))
      ∗ Φ (some (true, 0)) ∗ Φ (some (true, 1)) ∗ Φ (some (true, 2))) :=
  bigSep_univ_eq_bigSepL allW (by decide) (by decide) Φ

/-- The scratch buffer at a share is its four slots at that share. -/
theorem scratch_slots (c : Dev nD) (q : PosShare TreeShare) (f : Buf (Elt F) ((c : Thread nD τ).loc cc0_scratch0)) :
    (((c : Thread nD τ).loc cc0_scratch0) ↦{q} f : sProp 𝕄)
      = iprop((((c : Thread nD τ).loc cc0_scratch0) ↦[slotSet 0]{q} f) ∗ (((c : Thread nD τ).loc cc0_scratch0) ↦[slotSet 1]{q} f)
        ∗ (((c : Thread nD τ).loc cc0_scratch0) ↦[slotSet 2]{q} f) ∗ (((c : Thread nD τ).loc cc0_scratch0) ↦[slotSet 3]{q} f)) :=
  (Ring.pointsTo_blocks (ℓ := (c : Thread nD τ).loc cc0_scratch0) slotSet slots_disjoint slots_cover f).trans (bigSep_slots _)

/-- Held outright, the buffer is its four slots held outright. -/
theorem scratch_pts (c : Dev nD) (f : Buf (Elt F) ((c : Thread nD τ).loc cc0_scratch0)) :
    (((c : Thread nD τ).loc cc0_scratch0) ↦{fullShare} f : sProp 𝕄)
      = iprop(slotPts c 0 f ∗ slotPts c 1 f ∗ slotPts c 2 f ∗ slotPts c 3 f) := scratch_slots c fullShare f

/-- The part of slot 0 a device keeps for itself while its transfers read the rest. -/
def kept (c : Dev nD) : sProp 𝕄 :=
  (slot 0).view.loc (c : Thread nD τ) ↦[(slot 0).view.set]{keptShare} full m ρ c

/-- Slot 0 with the candidates in it: the three lent parts and the kept one. -/
theorem slot0_parts (c : Dev nD) :
    slotPts c 0 (full m ρ c) = iprop(lent m ρ c 0 ∗ lent m ρ c 1 ∗ lent m ρ c 2 ∗ kept m ρ c) := by
  unfold slotPts lent kept
  exact four_shares _ _

/-- With the kept part of slot 0 and the three filled slots, the whole buffer can be read, and they come back. -/
theorem read_all (c : Dev nD) :
    iprop(kept m ρ c ∗ slotPts c 1 (full m ρ c) ∗ slotPts c 2 (full m ρ c) ∗ slotPts c 3 (full m ρ c))
      ⊢ iprop((((c : Thread nD τ).loc cc0_scratch0) ↦{keptShare} full m ρ c)
        ∗ ((((c : Thread nD τ).loc cc0_scratch0) ↦{keptShare} full m ρ c)
          -∗ (kept m ρ c ∗ slotPts c 1 (full m ρ c) ∗ slotPts c 2 (full m ρ c) ∗ slotPts c 3 (full m ρ c)))) := by
  have e (s : Fin 4) : (slotPts c s (full m ρ c) : sProp 𝕄)
      = iprop((((c : Thread nD τ).loc cc0_scratch0) ↦[slotSet s]{lentShare 0} full m ρ c)
        ∗ (((c : Thread nD τ).loc cc0_scratch0) ↦[slotSet s]{lentShare 1} full m ρ c)
        ∗ (((c : Thread nD τ).loc cc0_scratch0) ↦[slotSet s]{lentShare 2} full m ρ c)
        ∗ (((c : Thread nD τ).loc cc0_scratch0) ↦[slotSet s]{keptShare} full m ρ c)) := four_shares _ _
  have e₀ : (kept m ρ c : sProp 𝕄) = (((c : Thread nD τ).loc cc0_scratch0) ↦[slotSet 0]{keptShare} full m ρ c) := rfl
  rw [scratch_slots, e 1, e 2, e 3, e₀]
  iintro ⟨H0, ⟨A1, B1, C1, D1⟩, ⟨A2, B2, C2, D2⟩, ⟨A3, B3, C3, D3⟩⟩
  isplitl [H0 D1 D2 D3]
  · isplitl [H0]; · iexact H0
    isplitl [D1]; · iexact D1
    isplitl [D2] <;> iassumption
  iintro ⟨H0, D1, D2, D3⟩
  isplitl [H0]; · iexact H0
  isplitl [A1 B1 C1 D1]
  · isplitl [A1]; · iexact A1
    isplitl [B1]; · iexact B1
    isplitl [C1] <;> iassumption
  isplitl [A2 B2 C2 D2]
  · isplitl [A2]; · iexact A2
    isplitl [B2]; · iexact B2
    isplitl [C2] <;> iassumption
  isplitl [A3]; · iexact A3
  isplitl [B3]; · iexact B3
  isplitl [C3] <;> iassumption

/-- Storing the candidates puts slot 0 at its final contents. -/
theorem stored_eq (c : Dev nD) (f : (cc0_scratch0 : Ref sig .tc).ty.Contents (Elt F)) (i : S4x8x256.Idx) (hi : i ∈ slotSet 0) :
    (kM.access (slotR 0)).write (Elt F) f (candOf (xstg m ρ c)) Finset.univ i = full m ρ c i := by
  have hi' : i ∈ (slotR 0).set := (Finset.ext_iff.mp (slot_set 0) i).mp hi
  rw [← Rect.map_emb_univ, Finset.mem_map] at hi'
  obtain ⟨y, -, rfl⟩ := hi'
  rw [full_emb m ρ]
  exact View.write_emb_of_mem (v := kM.access (slotR 0)) _ _ (Finset.mem_univ y)

/-! ## What a device starts from and ends with -/

/-- The invariants of all semaphores and that all stand before their round: what every device may use. -/
def records (K : Dev nD × Which → ℕ) : sProp 𝕄 :=
  iprop((bigSep Finset.univ fun ck : Dev nD × Which => cellInv ER (sched m ρ) (K ck) (kcell ck))
    ∗ bigSep Finset.univ fun ck : Dev nD × Which => reached ER (kcell ck) 0)

instance records_persistent (K : Dev nD × Which → ℕ) : BI.Persistent (records m ρ K) := by unfold records; infer_instance

theorem inv_of (K : Dev nD × Which → ℕ) (c : Dev nD) (k : Which) :
    records m ρ K ⊢ cellInv ER (sched m ρ) (K (c, k)) (kcell (c, k)) := by
  unfold records
  iintro ⟨H, -⟩
  iapply (show (bigSep Finset.univ fun ck : Dev nD × Which => (cellInv ER (sched m ρ) (K ck) (kcell ck) : sProp 𝕄))
    ⊢ cellInv ER (sched m ρ) (K (c, k)) (kcell (c, k)) from bigSep_elim (Finset.mem_univ (c, k))); iexact H
theorem reached_of (K : Dev nD × Which → ℕ) (c : Dev nD) (k : Which) :
    records m ρ K ⊢ reached ER (kcell (c, k)) 0 := by
  unfold records
  iintro ⟨-, H⟩
  iapply (show (bigSep Finset.univ fun ck : Dev nD × Which => (reached ER (kcell ck) 0 : sProp 𝕄))
    ⊢ reached ER (kcell (c, k)) 0 from bigSep_elim (Finset.mem_univ (c, k))); iexact H

/-- A device's positions at its seven semaphores, -/
def positions (c : Dev nD) : sProp 𝕄 := bigSep Finset.univ fun k : Which => atPos ER (kcell (c, k)) 0 ∅ 0
/-- and the tokens of the duties it pays: one at each other device's barrier, its three arrivals there, its three sends. -/
def payToks (c : Dev nD) : sProp 𝕄 := bigSep Finset.univ fun j : Fin 3 =>
  iprop(dutyTok ER (barCell (up j c)) 0 j.rev ∗ dutyTok ER (recvCell j (up j c)) 0 0 ∗ dutyTok ER (sendCell j c) 0 0)

def ghost (K : Dev nD × Which → ℕ) (c : Dev nD) : sProp 𝕄 := iprop(records m ρ K ∗ positions c ∗ payToks c)

/-- The credits a device may wait for. -/
def credits (c : Dev nD) : sProp 𝕄 :=
  iprop(cred (tallyAt (barCell c) () 3) ∗ cred (tallyAt (recvCell 0 c) () N) ∗ cred (tallyAt (recvCell 1 c) () N)
    ∗ cred (tallyAt (recvCell 2 c) () N))

def start (c : Dev nD) : sProp 𝕄 := iprop((∃ K, ghost m ρ K c) ∗ credits c ∗ levAts L lv)

def Φ₀ (c : Dev nD) : sProp 𝕄 := iprop(start m ρ c ∗ ∃ f, ((c : Thread nD τ).loc cc0_scratch0) ↦{fullShare} f)
/-- After the body: the scratch buffer full, and all seven semaphores at zero. -/
def Φ₁ (c : Dev nD) : sProp 𝕄 :=
  iprop((((c : Thread nD τ).loc cc0_scratch0) ↦{fullShare} full m ρ c) ∗ bigSep Finset.univ fun k : Which => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => debt₆ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's steps, once for every neighbour -/

section Steps

variable (K : Dev nD × Which → ℕ) (c : Dev nD)

/-- A signal to the device `j + 1` places on hands it the slot of `c` that it will write. -/
theorem step_signal (j : Fin 3) (n : Dev nD) (hn : n = up j c) {α : Type} {Q : α → sProp 𝕄}
    {k : PUnit → Prog (TpuEff nD τ sig (Elt F) Λ₀ .tc) α} (O : CellTallies nD τ sig Unit) (W : Waits sig Unit)
    (f : Buf (Elt F) ((slot j.rev.succ).view.loc (c : Thread nD τ))) :
    iprop(records m ρ K ∗ owes (c : Thread nD τ) (O + barDue j c) W ∗ dutyTok ER (barCell (up j c)) 0 j.rev ∗ slotPts c j.rev.succ f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  iintro ⟨#HR, HO, Ht, Hs⟩ Hk
  iapply (Rounds.wp_signal 𝒱₀ ER (sched m ρ) (c : Thread nD τ) none (dst := (up j c : Thread nD τ)) (κ := K (up j c, none))
      (d := j.rev) (by rw [duties_bar]; exact Finset.mem_univ _) (amount_bar m ρ (up j c) j.rev) () O rfl) $$ [HO Ht Hs]
  · isplitr; · iapply (inv_of m ρ K (up j c) none); iexact HR
    isplitl [HO]; · iexact HO
    isplitl [Ht]; · iexact Ht
    isplitl [Hs]
    · rw [payload_bar]; unfold barPay; rw [up_rev_up]
      isplitl [Hs]; · iexists f; iexact Hs
      iapply (reached_of m ρ K c (some (true, j.rev))); iexact HR
    · iapply (reached_of m ρ K (up j c) none); iexact HR
  iexact Hk

/-- Transfer `j` carries slot 0 to slot `j + 1` of the device `j + 1` places on. -/
theorem step_send (j : Fin 3) (n : Dev nD) (hn : n = up j c)
    {hsc : (slot j.succ : Memref sig (Dev.tc n : Thread nD τ).2.kind .vmem S8x256 .f32).view.ref.isScScratch = false}
    {hsrc : (slot 0).view.WordExact} {hdst : (slot j.succ).view.WordExact}
    {hsem : DmaTarget.Typed .vmem (.dma (recvS j)) (.remote (Dev.tc n : Thread nD τ) (slot j.succ : Memref sig .tc .vmem S8x256 .f32) (.dma (sendS j)) hsc)}
    {α : Type} {Q : α → sProp 𝕄} {k : PUnit → Prog (TpuEff nD τ sig (Elt F) Λ₀ .tc) α}
    (O : CellTallies nD τ sig Unit) (W : Waits sig Unit) :
    iprop(records m ρ K ∗ lent m ρ c j ∗ barPay c j ∗ owes (c : Thread nD τ) (O + recvDue j c) W
        ∗ dutyTok ER (recvCell j (up j c)) 0 0 ∗ dutyTok ER (sendCell j c) 0 0)
      ⊢ iprop(((cred (tallyAt (sendCell j c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot 0) (.remote (Dev.tc n : Thread nD τ) (slot j.succ) (.dma (sendS j)) hsc) (.dma (recvS j)) hsrc hdst hsem) k) Q) := by
  subst hn
  unfold barPay lent
  iintro ⟨#HR, Hl, ⟨⟨%f, Hs⟩, #Hre⟩, HO, Htv, Hts⟩ Hk
  unfold slotPts
  iapply (Rounds.wp_send_pointsTo 𝒱₀ ER (sched m ρ) (c : Thread nD τ) none (κ₁ := K (c, some (false, j))) (κ₂ := K (up j c, some (true, j)))
    (r₁ := 0) (r₂ := 0) (d₁ := 0) (d₂ := 0) (fd := f) (src := slot 0) (dst := slot j.succ) (c' := (up j c : Thread nD τ))
    (by rw [duties_send]; exact Finset.mem_singleton_self _) (by rw [duties_recv]; exact Finset.mem_singleton_self _)
    () () N rfl (amount_send m ρ c j 0) (amount_recv m ρ (up j c) j 0) O rfl (W := W)
    (by rw [payload_send]; exact BI.Entails.refl _)
    (by rw [payload_recv]; unfold slotPts; exact Entails.of_eq (pointsTo_congr fun i hi => landed_eq m ρ j c f i hi))) $$ [Hl Hs HO Htv Hts]
  · isplitr; · iapply (inv_of m ρ K c (some (false, j))); iexact HR
    isplitr; · iapply (inv_of m ρ K (up j c) (some (true, j))); iexact HR
    isplitl [Hl]; · iexact Hl
    isplitl [Hs]; · iexact Hs
    isplitl [HO]; · iexact HO
    isplitl [Hts]; · iexact Hts
    isplitr; · iapply (reached_of m ρ K c (some (false, j))); iexact HR
    isplitl [Htv]; · iexact Htv
    iexact Hre
  iexact Hk

/-- The wait for arrival `j`: slot `j + 1` is filled. -/
theorem step_arrive (j : Fin 3) {hsrc : (slot 0).view.WordExact} {hdst : (slot j.succ).view.WordExact}
    {α : Type} {Q : α → sProp 𝕄} {k : PUnit → Prog (TpuEff nD τ sig (Elt F) Λ₀ .tc) α} (W : Waits sig Unit) :
    iprop(records m ρ K ∗ cred (tallyAt (recvCell j c) () N) ∗ owes (c : Thread nD τ) 0 W ∗ atPos ER (recvCell j c) 0 ∅ 0)
      ⊢ iprop(((owes (c : Thread nD τ) 0 (insert (SemLoc.dma (recvS j), ()) W) ∗ atPos ER (recvCell j c) 1 ∅ 0 ∗ slotPts c j.succ (full m ρ c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvS j) (slot 0) (slot j.succ) hsrc hdst) k) Q) := by
  iintro ⟨#HR, Hc, HO, Ha⟩ Hk
  iapply (Rounds.wp_wait_rest_token 𝒱₀ ER (sched m ρ) (c : Thread nD τ) none (κ := K (c, some (true, j)))
      (wpE_waitDma2_eq 𝒱₀ (c : Thread nD τ) none Set.univ) (Set.mem_univ _) () (O := 0) (W := W) (R := 0) (m := 0) (T := ∅)
      (by rw [Nat.zero_add]; exact (expect_recv m ρ c j).symm)) $$ [Hc HO Ha]
  · isplitr; · iapply (inv_of m ρ K c (some (true, j))); iexact HR
    isplitl [Hc]; · iexact Hc
    isplitl [HO]; · iexact HO
    isplitr; · rw [MayWait_zero]; iempintro
    iexact Ha
  iintro ⟨HO, Ha, -, Hp⟩
  ihave Hs := (Entails.of_eq (rest_recv m ρ c j)) $$ Hp
  iapply Hk
  isplitl [HO]; · iexact HO
  isplitl [Ha] <;> iassumption

/-- The wait for the end of send `j`: the share lent to it comes back. -/
theorem step_sent (j : Fin 3) {hsrc : (slot j.succ).view.WordExact} {hdst : (slot 0).view.WordExact}
    {α : Type} {Q : α → sProp 𝕄} {k : PUnit → Prog (TpuEff nD τ sig (Elt F) Λ₀ .tc) α} (W : Waits sig Unit) :
    iprop(records m ρ K ∗ cred (tallyAt (sendCell j c) () N) ∗ owes (c : Thread nD τ) 0 W ∗ atPos ER (sendCell j c) 0 ∅ 0)
      ⊢ iprop(((owes (c : Thread nD τ) 0 (insert (SemLoc.dma (sendS j), ()) W) ∗ atPos ER (sendCell j c) 1 ∅ 0 ∗ lent m ρ c j)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendS j) (slot j.succ) (slot 0) hsrc hdst) k) Q) := by
  iintro ⟨#HR, Hc, HO, Ha⟩ Hk
  iapply (Rounds.wp_wait_rest_token 𝒱₀ ER (sched m ρ) (c : Thread nD τ) none (κ := K (c, some (false, j)))
      (wpE_waitDma2_eq 𝒱₀ (c : Thread nD τ) none Set.univ) (Set.mem_univ _) () (O := 0) (W := W) (R := 0) (m := 0) (T := ∅)
      (by rw [Nat.zero_add]; exact (expect_send m ρ c j).symm)) $$ [Hc HO Ha]
  · isplitr; · iapply (inv_of m ρ K c (some (false, j))); iexact HR
    isplitl [Hc]; · iexact Hc
    isplitl [HO]; · iexact HO
    isplitr; · rw [MayWait_zero]; iempintro
    iexact Ha
  iintro ⟨HO, Ha, -, Hp⟩
  ihave Hs := (Entails.of_eq (rest_send m ρ c j)) $$ Hp
  iapply Hk
  isplitl [HO]; · iexact HO
  isplitl [Ha] <;> iassumption

/-- A semaphore whose one round is over has its counter at zero. -/
theorem step_close (k : Which) :
    iprop(records m ρ K ∗ atPos ER (kcell (c, k)) 1 ∅ 0) ⊢ (|={Set.univ}=> semVal (kcell (c, k)) 0 : sProp 𝕄) := by
  iintro ⟨#HR, Ha⟩
  iapply (Rounds.cell_close ER (sched m ρ) (Set.mem_univ (K (c, k))) (fun h => h) (R := 1) (duties_later m ρ (kcell (c, k))))
  isplitr; · iapply (inv_of m ρ K c k); iexact HR
  iexact Ha

end Steps

/-! ## The body -/

section Body

variable (K : Dev nD × Which → ℕ)

abbrev r₂ : Rect S256x1024 := Rect.unit (s := S256x1024) ![0, 0] S256x1024.size inb_S256x1024_S256x1024_0_0
abbrev r₃ : Rect S4x8x256 := Rect.unit (s := S4x8x256) ![0, 0, 0] S4x8x256.size inb_S4x8x256_S4x8x256_0_0_0
abbrev r₈ : Rect S256x8 := Rect.unit (s := S256x8) ![0, 0] S256x8.size inb_S256x8_S256x8_0_0

theorem hz₂ : (![0, 0] : Fin 2 → Nat) = fun _ => 0 := funext fun a => by fin_cases a <;> rfl
theorem hz₃ : (![0, 0, 0] : Fin 3 → Nat) = fun _ => 0 := funext fun a => by fin_cases a <;> rfl

theorem read_x (f : (cc0_stg0_0 : Ref sig .tc).ty.Contents (Elt F)) : xM.view.readAt (Elt F) r₂.toLoadRect f = f :=
  Memref.readAt_unit_zero (Elt F) cc0_stg0_0 hz₂ _ f
theorem read_k (f : (cc0_scratch0 : Ref sig .tc).ty.Contents (Elt F)) : kM.view.readAt (Elt F) r₃.toLoadRect f = f :=
  Memref.readAt_unit_zero (Elt F) cc0_scratch0 hz₃ _ f
theorem write_o (f w : (cc0_stg1_0 : Ref sig .tc).ty.Contents (Elt F)) :
    (oM.access r₈ : View sig .tc _ _ _).write (Elt F) f w Finset.univ = w :=
  Memref.write_access_unit_zero_univ (Elt F) cc0_stg1_0 hz₂ _ f w

theorem slot0_on : kM.view.setOn (slotR 0).toLoadRect.set ⊆ slotSet 0 := by
  unfold slotSet
  rw [slot_set]
  exact le_of_eq (Finset.map_refl)
theorem slot0_access : (kM.access (slotR 0)).setOn Finset.univ ⊆ slotSet 0 := by
  unfold slotSet
  rw [slot_set, View.setOn_univ]
  exact le_of_eq (View.set_slice_whole _ _)

/-- Slot 0, named as part of the whole buffer, which is how the body's load and store name it. -/
theorem slot0_open (c : Dev nD) (f : Buf (Elt F) ((c : Thread nD τ).loc cc0_scratch0)) :
    (slotPts c 0 f : sProp 𝕄) ⊢ (kM.view.loc (c : Thread nD τ) ↦[slotSet 0]{fullShare} f) := BI.Entails.refl _
/-- Slot 0 just after the body stored `x` in it. -/
def storedPts (c : Dev nD) (f : Buf (Elt F) ((c : Thread nD τ).loc cc0_scratch0)) (x : FVec F S1x8x256 .f32) : sProp 𝕄 :=
  kM.view.loc (c : Thread nD τ) ↦[slotSet 0]{fullShare} (kM.access (slotR 0)).write (Elt F) f x Finset.univ
theorem storedPts_intro (c : Dev nD) (f : Buf (Elt F) ((c : Thread nD τ).loc cc0_scratch0)) (x : FVec F S1x8x256 .f32) :
    (kM.view.loc (c : Thread nD τ) ↦[slotSet 0]{fullShare} (kM.access (slotR 0)).write (Elt F) f x Finset.univ : sProp 𝕄)
      ⊢ storedPts c f x := BI.Entails.refl _
/-- After the store slot 0 holds the device's candidates. -/
theorem slot0_stored (c : Dev nD) (f : Buf (Elt F) ((c : Thread nD τ).loc cc0_scratch0)) (x : FVec F S1x8x256 .f32) :
    iprop(storedPts c f x ∗ ⌜x = candOf (xstg m ρ c)⌝) ⊢ slotPts c 0 (full m ρ c) := by
  iintro ⟨H, %h⟩
  subst h
  iapply (show (storedPts c f (candOf (xstg m ρ c)) : sProp 𝕄) ⊢ slotPts c 0 (full m ρ c) from
    Entails.of_eq (pointsTo_congr fun i hi => stored_eq m ρ c f i hi))
  iexact H

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ credits c ∗ levAts L lv ∗ ∃ f, ((c : Thread nD τ).loc cc0_scratch0) ↦{fullShare} f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

set_option maxHeartbeats 1600000 in
/-- The body takes a device from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton]
  unfold k0_part1_skel k0_part2_skel k0_part3_skel k0_part4_skel k0_part5_skel k0_part6_skel k0_part7_skel k0_part8_skel
    k0_part9_skel k0_part10_skel k0_part11_skel k0_part12_skel
  simp only [semSignalWord, semWaitWord, Prog.lift, Prog.bind_op, Prog.bind_ret, Prog.pure_eq_ret, wp_deviceId]
  unfold bodyPre ghost positions payToks credits
  rw [bigSep_which, bigSep_three]
  iintro ⟨⟨⟨⟨#HR, ⟨HaB, HaS0, HaS1, HaS2, HaV0, HaV1, HaV2⟩, ⟨HtB0, HtV0, HtS0⟩, ⟨HtB1, HtV1, HtS1⟩, ⟨HtB2, HtV2, HtS2⟩⟩,
      ⟨HcB, HcV0, HcV1, HcV2⟩, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = debt₆ c from rfl]
  ihave Hsl := (Entails.of_eq (scratch_pts c f0)) $$ Hscr
  icases Hsl with ⟨Hs0, Hs1, Hs2, Hs3⟩
  unfold debt₆
  iapply (step_signal m ρ K c 0 _ (dev1_eq c) (debt₅ c) W f0) $$ [HO HtB0 Hs3]
  · isplitr; · iexact HR
    isplitl [HO]; · iexact HO
    isplitl [HtB0]; · iexact HtB0
    iapply (show slotPts c 3 f0 ⊢ slotPts c (Fin.rev 0).succ f0 from BI.Entails.refl _); iexact Hs3
  iintro HO
  unfold debt₅
  iapply (step_signal m ρ K c 1 _ (dev2_eq c) (debt₄ c) W f0) $$ [HO HtB1 Hs2]
  · isplitr; · iexact HR
    isplitl [HO]; · iexact HO
    isplitl [HtB1]; · iexact HtB1
    iapply (show slotPts c 2 f0 ⊢ slotPts c (Fin.rev 1).succ f0 from BI.Entails.refl _); iexact Hs2
  iintro HO
  unfold debt₄
  iapply (step_signal m ρ K c 2 _ (dev3_eq c) (debt₃ c) W f0) $$ [HO HtB2 Hs1]
  · isplitr; · iexact HR
    isplitl [HO]; · iexact HO
    isplitl [HtB2]; · iexact HtB2
    iapply (show slotPts c 1 f0 ⊢ slotPts c (Fin.rev 2).succ f0 from BI.Entails.refl _); iexact Hs1
  iintro HO
  iapply (wp_load 𝒱₀ (c : Thread nD τ) none Set.univ (m := xM) (Finset.subset_univ _)) $$ Hx; iintro Hx
  rw [read_x]
  ihave Hs0 := (slot0_open c f0) $$ Hs0
  iapply (wp_load 𝒱₀ (c : Thread nD τ) none Set.univ (m := kM) slot0_on) $$ Hs0; iintro Hs0
  iapply (wp_store 𝒱₀ (c : Thread nD τ) none Set.univ (m := kM) (r := slotR 0) (Mk := Finset.univ) slot0_access) $$ Hs0; iintro Hs0
  ihave Hs0 := (storedPts_intro c f0 _) $$ Hs0
  ihave Hs0 := (slot0_stored m ρ c f0 _) $$ [Hs0]
  · isplitl [Hs0]; · iexact Hs0
    ipureintro; rfl
  iapply (Rounds.wp_wait_rest_token 𝒱₀ ER (sched m ρ) (c : Thread nD τ) none (κ := K (c, none))
      (wpE_semWait_eq 𝒱₀ (c : Thread nD τ) none Set.univ) (Set.mem_univ _) () (O := debt₃ c) (W := W) (R := 0) (m := 0) (T := ∅)
      (by rw [expect_bar]; decide)) $$ [HcB HO HaB]
  · isplitr; · iapply (inv_of m ρ K c none); iexact HR
    isplitl [HcB]; · iexact HcB
    isplitl [HO]; · iexact HO
    isplitr; · iapply (mayWait_bar c); iexact Hlev
    iexact HaB
  iintro ⟨HO, HaB, -, Hp⟩
  ihave Hp := (Entails.of_eq (rest_bar m ρ c)) $$ Hp
  icases Hp with ⟨Hb0, Hb1, Hb2⟩
  ihave Hs0 := (Entails.of_eq (slot0_parts m ρ c)) $$ Hs0
  icases Hs0 with ⟨Hl0, Hl1, Hl2, Hkept⟩
  unfold debt₃
  iapply (step_send m ρ K c 0 _ (dev4_eq c) (debt₂ c) (insert (SemLoc.reg barS, ()) W)) $$ [HO Hl0 Hb0 HtV0 HtS0]
  · isplitr; · iexact HR
    isplitl [Hl0]; · iexact Hl0
    isplitl [Hb0]; · iexact Hb0
    isplitl [HO]; · iexact HO
    isplitl [HtV0]; · iexact HtV0
    iexact HtS0
  iintro ⟨HcS0, HO⟩
  unfold debt₂
  iapply (step_send m ρ K c 1 _ (dev5_eq c) (debt₁ c) (insert (SemLoc.reg barS, ()) W)) $$ [HO Hl1 Hb1 HtV1 HtS1]
  · isplitr; · iexact HR
    isplitl [Hl1]; · iexact Hl1
    isplitl [Hb1]; · iexact Hb1
    isplitl [HO]; · iexact HO
    isplitl [HtV1]; · iexact HtV1
    iexact HtS1
  iintro ⟨HcS1, HO⟩
  unfold debt₁
  iapply (step_send m ρ K c 2 _ (dev6_eq c) 0 (insert (SemLoc.reg barS, ()) W)) $$ [HO Hl2 Hb2 HtV2 HtS2]
  · isplitr; · iexact HR
    isplitl [Hl2]; · iexact Hl2
    isplitl [Hb2]; · iexact Hb2
    isplitl [HO]; · iexact HO
    isplitl [HtV2]; · iexact HtV2
    iexact HtS2
  iintro ⟨HcS2, HO⟩
  iapply (step_arrive m ρ K c 0 _) $$ [HcV0 HO HaV0]
  · isplitr; · iexact HR
    isplitl [HcV0]; · iexact HcV0
    isplitl [HO] <;> iassumption
  iintro ⟨HO, HaV0, Hs1⟩
  iapply (step_arrive m ρ K c 1 _) $$ [HcV1 HO HaV1]
  · isplitr; · iexact HR
    isplitl [HcV1]; · iexact HcV1
    isplitl [HO] <;> iassumption
  iintro ⟨HO, HaV1, Hs2⟩
  iapply (step_arrive m ρ K c 2 _) $$ [HcV2 HO HaV2]
  · isplitr; · iexact HR
    isplitl [HcV2]; · iexact HcV2
    isplitl [HO] <;> iassumption
  iintro ⟨HO, HaV2, Hs3⟩
  ihave Hall := (read_all m ρ c) $$ [Hkept Hs1 Hs2 Hs3]
  · isplitl [Hkept]; · iexact Hkept
    isplitl [Hs1]; · iexact Hs1
    isplitl [Hs2]; · iexact Hs2
    iexact Hs3
  icases Hall with ⟨Hfull, Hback⟩
  iapply (wp_load 𝒱₀ (c : Thread nD τ) none Set.univ (m := kM) (Finset.subset_univ _)) $$ Hfull; iintro Hfull
  rw [read_k]
  ispecialize Hback $$ Hfull
  icases Hback with ⟨Hkept, Hs1, Hs2, Hs3⟩
  iapply (wp_load 𝒱₀ (c : Thread nD τ) none Set.univ (m := oM) (Finset.subset_univ _)) $$ Hout; iintro Hout
  iapply (wp_store 𝒱₀ (c : Thread nD τ) none Set.univ (m := oM) (r := r₈) (Mk := Finset.univ) (Finset.subset_univ _)) $$ Hout; iintro Hout
  rw [write_o]
  iapply (step_sent m ρ K c 0 _) $$ [HcS0 HO HaS0]
  · isplitr; · iexact HR
    isplitl [HcS0]; · iexact HcS0
    isplitl [HO] <;> iassumption
  iintro ⟨HO, HaS0, Hl0⟩
  iapply (step_sent m ρ K c 1 _) $$ [HcS1 HO HaS1]
  · isplitr; · iexact HR
    isplitl [HcS1]; · iexact HcS1
    isplitl [HO] <;> iassumption
  iintro ⟨HO, HaS1, Hl1⟩
  iapply (step_sent m ρ K c 2 _) $$ [HcS2 HO HaS2]
  · isplitr; · iexact HR
    isplitl [HcS2]; · iexact HcS2
    isplitl [HO] <;> iassumption
  iintro ⟨HO, HaS2, Hl2⟩
  imod (step_close m ρ K c none) $$ [HaB] with HzB
  · isplitr; · iexact HR
    iexact HaB
  imod (step_close m ρ K c (some (false, 0))) $$ [HaS0] with HzS0
  · isplitr; · iexact HR
    iexact HaS0
  imod (step_close m ρ K c (some (false, 1))) $$ [HaS1] with HzS1
  · isplitr; · iexact HR
    iexact HaS1
  imod (step_close m ρ K c (some (false, 2))) $$ [HaS2] with HzS2
  · isplitr; · iexact HR
    iexact HaS2
  imod (step_close m ρ K c (some (true, 0))) $$ [HaV0] with HzV0
  · isplitr; · iexact HR
    iexact HaV0
  imod (step_close m ρ K c (some (true, 1))) $$ [HaV1] with HzV1
  · isplitr; · iexact HR
    iexact HaV1
  imod (step_close m ρ K c (some (true, 2))) $$ [HaV2] with HzV2
  · isplitr; · iexact HR
    iexact HaV2
  rw [wp_ret]; imodintro
  iapply Hk
  unfold bodyPost Φ₁ Dat.owesAt Pipeline.owesWithin
  rw [show (dats m ρ 0 c).owed t₀.succ = 0 from rfl, scratch_pts, slot0_parts, bigSep_which]
  isplitl [Hl0 Hl1 Hl2 Hkept Hs1 Hs2 Hs3 HzB HzS0 HzS1 HzS2 HzV0 HzV1 HzV2]
  · isplitl [Hl0 Hl1 Hl2 Hkept Hs1 Hs2 Hs3]
    · isplitl [Hl0 Hl1 Hl2 Hkept]
      · isplitl [Hl0]; · iexact Hl0
        isplitl [Hl1]; · iexact Hl1
        isplitl [Hl2] <;> iassumption
      isplitl [Hs1]; · iexact Hs1
      isplitl [Hs2] <;> iassumption
    isplitl [HzB]; · iexact HzB
    isplitl [HzS0]; · iexact HzS0
    isplitl [HzS1]; · iexact HzS1
    isplitl [HzS2]; · iexact HzS2
    isplitl [HzV0]; · iexact HzV0
    isplitl [HzV1] <;> iassumption
  isplitl [HO]
  · iexists (insert (SemLoc.dma (sendS 2), ()) (insert (SemLoc.dma (sendS 1), ()) (insert (SemLoc.dma (sendS 0), ())
      (insert (SemLoc.dma (recvS 2), ()) (insert (SemLoc.dma (recvS 1), ()) (insert (SemLoc.dma (recvS 0), ())
        (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

theorem bigSep_windows (Φ : Fin cfg0.W → sProp 𝕄) : bigSep Finset.univ Φ = iprop(Φ (0 : Fin 2) ∗ Φ (1 : Fin 2)) := bigSep_W0 Φ

/-- What the body starts from, with the invariants' names not yet chosen. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- The launch's demand on the body, on device `c`. -/
theorem body_obligation (c : Dev nD) : BodyObligation (dats (F := F) m ρ 0 c) (defs₀ (F := F)) 𝒱₀ () Set.univ := fun t => by
  rw [fin_N t, bigSep_windows, bigSep_windows]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hc, Hl⟩, Hscr⟩, Ho, Hx, Hout⟩
  iapply (sound_body m ρ K c fun _ => bodyPost m ρ c)
  unfold bodyPre
  isplitr []
  · isplitl [Hg Hc Hl Hscr]
    · isplitl [Hg]; · iexact Hg
      isplitl [Hc]; · iexact Hc
      isplitl [Hl]; · iexact Hl
      iexact Hscr
    isplitl [Ho]; · iexact Ho
    isplitl [Hx] <;> iassumption
  · iintro H; iexact H

end Body

end Cert.KernelIdeal.Run

end
-- ==== Proof.KernelIdealLaunch.lean ====
/-
The launch of the exchange: the tokens dealt along the rows, the credits the devices start with, and the run.
-/
module

public import proofs.«01_k».proof.Proof.KernelIdealBody
public import proofs.«01_k».proof.Proof.Gen.KernelIdeal.Points
public import Idealize.ShloMosaic.Lib.Quiescent
public import Idealize.ShloMosaic.Lib.Pipeline.CollectiveSegs

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Semaphores and tokens at launch -/

/-- The kernel's own semaphores: those of its sends, then those of its arrivals. -/
abbrev osem : Fin 6 → SemLoc sig := ![.dma (sendS 0), .dma (sendS 1), .dma (sendS 2), .dma (recvS 0), .dma (recvS 1), .dma (recvS 2)]

theorem ownSemFacts : Pipeline.OwnSemFacts cfg0.spec osem := by decide

theorem share_eq (c : Dev nD) (w : Fin cfg0.W) : (dats m ρ 0 c).share w = fullShare := by unfold Dat.share; split <;> rfl

/-- All semaphores of the exchange. -/
def cells : Finset (GSem nD τ sig) := Finset.univ.map ⟨kcell, kcell_inj⟩

/-- The nine duties at a device's semaphores: for each of the three others, its signal, its transfer's arrival here, and
    the end of this device's transfer to it. -/
def duty : Fin 3 × Fin 3 → Which × Fin 3
  | (j, 0) => (none, j)
  | (j, 1) => (some (true, j), 0)
  | (j, 2) => (some (false, j), 0)

theorem duty_inj : Function.Injective duty := by decide

abbrev tokenOf (cd : Dev nD × Fin 3 × Fin 3) : GSem nD τ sig × ℕ × Fin 3 := (kcell (cd.1, (duty cd.2).1), 0, (duty cd.2).2)

theorem tokenOf_inj : Function.Injective tokenOf := by
  rintro ⟨c, d⟩ ⟨c', d'⟩ h
  obtain ⟨h₁, h₂⟩ := Prod.mk.inj h
  obtain ⟨hc, hk⟩ := kcell_eq_iff.mp h₁
  have hd : d = d' := duty_inj (Prod.ext hk (Prod.mk.inj h₂).2)
  rw [hd]; exact congrArg (·, d') hc

def tokens : Finset (GSem nD τ sig × ℕ × Fin 3) := Finset.univ.map ⟨tokenOf, tokenOf_inj⟩

/-- The ghost state of the launch. -/
def u₀ : UU :=
  (initOf (Pipeline.cells cfgs cellOf_inj) (Pipeline.launchToks cfgs cellOf_inj), initOf cells tokens)

/-- The tokens of the duties at device `c`'s own semaphores. -/
def toks (c : Dev nD) : sProp 𝕄 := bigSep Finset.univ fun j : Fin 3 =>
  iprop(dutyTok ER (barCell c) 0 j ∗ dutyTok ER (recvCell j c) 0 0 ∗ dutyTok ER (sendCell j c) 0 0)

/-- What a device's semaphores bring at launch, -/
def G (c : Dev nD) : sProp 𝕄 :=
  iprop((bigSep Finset.univ fun k : Which => roundState ER (sched m ρ) (kcell (c, k)) 0)
    ∗ (bigSep Finset.univ fun k : Which => iprop(atPos ER (kcell (c, k)) 0 ∅ 0 ∗ reached ER (kcell (c, k)) 0)) ∗ toks c)
/-- and what the device holds when all have shared theirs. -/
def G' (c : Dev nD) : sProp 𝕄 := iprop(∃ K, ghost m ρ K c)

theorem fund_exchange : BI.own (ER (initOf cells tokens)) ⊢ (|==> bigSep Finset.univ (G m ρ) : sProp 𝕄) := by
  have hcells (Φ : GSem nD τ sig → sProp 𝕄) :
      bigSep cells Φ = bigSep Finset.univ fun c : Dev nD => bigSep Finset.univ fun k : Which => Φ (kcell (c, k)) := by
    unfold cells; rw [bigSep_map, bigSep_univ_prod]; rfl
  have htoks : bigSep tokens (fun x => (dutyTok ER x.1 x.2.1 x.2.2 : sProp 𝕄)) = bigSep Finset.univ fun c : Dev nD => toks c := by
    unfold tokens; rw [bigSep_map, bigSep_univ_prod]
    refine bigSep_congr fun c _ => ?_
    rw [bigSep_univ_prod]
    unfold toks
    exact bigSep_congr fun j _ => bigSep_three _
  iintro H
  imod (Rounds.fund ER (sched m ρ) cells tokens) $$ H with ⟨Hst, Hr, Hat, Htok⟩
  imodintro
  ihave Hst := (Entails.of_eq (hcells fun g => roundState ER (sched m ρ) g 0)) $$ Hst
  ihave Hat := (Entails.of_eq (hcells fun g => atPos ER g 0 ∅ 0)) $$ Hat
  ihave Hr := (Entails.of_eq (hcells fun g => reached ER g 0)) $$ Hr
  ihave Htok := (Entails.of_eq htoks) $$ Htok
  unfold G; simp only [bigSep_sep']
  isplitl [Hst]; · iexact Hst
  isplitl [Hat Hr]
  · isplitl [Hat] <;> iassumption
  iexact Htok

theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0
      ∗ semVal (recvCell 0 c) 0 ∗ semVal (recvCell 1 c) 0 ∗ semVal (recvCell 2 c) 0) := by
  rw [Pipeline.ownSems0_eq_of_list c osem [0, 1, 2, 3, 4, 5] (by decide) (by decide)]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

/-- The launch's counters are those of the seven semaphores. -/
theorem sems0_eq (c : Dev nD) :
    (bigSep Finset.univ fun k : Which => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_which]

/-- Each device puts its semaphores under their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Which => semVal (kcell (c, k)) 0) ∗ bigSep Finset.univ fun k : Which => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A family over the devices and the three steps along the row may be read at the stepped device. -/
theorem bigSep_turn (Φ : Fin 3 → Dev nD → sProp 𝕄) :
    (bigSep Finset.univ fun c : Dev nD => bigSep Finset.univ fun j : Fin 3 => Φ j c)
      = bigSep Finset.univ fun c : Dev nD => bigSep Finset.univ fun j : Fin 3 => Φ j (up j c) := by
  rw [BI.bigSep_univ_comm, BI.bigSep_univ_comm (fun (c : Dev nD) (j : Fin 3) => Φ j (up j c))]
  exact bigSep_congr fun j _ => bigSep_univ_equiv (turn j) (Φ j)

theorem bigSep_rev (Φ : Fin 3 → sProp 𝕄) : bigSep Finset.univ Φ = bigSep Finset.univ fun j : Fin 3 => Φ j.rev :=
  bigSep_univ_equiv Fin.revPerm Φ

/-- Each duty's token goes to the device that pays it. -/
theorem toks_around : (bigSep Finset.univ fun c : Dev nD => (toks c : sProp 𝕄)) = bigSep Finset.univ fun c : Dev nD => payToks c := by
  unfold toks payToks
  simp only [bigSep_sep']
  rw [bigSep_turn fun j c => dutyTok ER (recvCell j c) 0 0]
  congr 1
  rw [← bigSep_turn fun j c => dutyTok ER (barCell c) 0 j.rev]
  exact bigSep_congr fun c _ => bigSep_rev _

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Which => iprop(∃ κ : ℕ, cellInv ER (sched m ρ) κ (kcell ck))),
    bigSep_congr (s := Finset.univ) (fun (c : Dev nD) _ => bigSep_sep' Finset.univ (fun k : Which => (atPos ER (kcell (c, k)) 0 ∅ 0 : sProp 𝕄)) (fun k => reached ER (kcell (c, k)) 0)),
    bigSep_sep', ← bigSep_univ_prod (fun ck : Dev nD × Which => (reached ER (kcell ck) 0 : sProp 𝕄)), toks_around]
  iintro ⟨HI, ⟨Hat, #HR⟩, Htok⟩
  ihave HK := (BI.bigSep_exists_pi Finset.univ (fun (ck : Dev nD × Which) (κ : ℕ) => (cellInv ER (sched m ρ) κ (kcell ck) : sProp 𝕄))) $$ HI
  icases HK with ⟨%K, #HI⟩
  iapply (bigSep_with_persistent (R := records m ρ K) (Φ := fun c : Dev nD => iprop(positions c ∗ payToks c)) (Ψ := G' m ρ) fun c _ => by
    unfold G' ghost
    iintro ⟨HR, Hp⟩
    iexists K
    isplitl [HR] <;> iassumption)
  isplitr
  · unfold records; isplitl; · iexact HI
    iexact HR
  · iapply (Entails.of_eq (bigSep_sep' Finset.univ (fun c : Dev nD => (positions c : sProp 𝕄)) payToks).symm)
    unfold positions
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

theorem barDue_bar (j : Fin 3) (d c : Dev nD) : barDue j d (barCell c) () = if d = up j.rev c then 1 else 0 := by
  rw [tallyAt_apply]
  refine if_congr ?_ rfl rfl
  rw [and_iff_left rfl, kcell_eq_iff (k := none) (k' := none), and_iff_left rfl, up_eq_iff]
theorem recvDue_bar (j : Fin 3) (d c : Dev nD) : recvDue j d (barCell c) () = 0 := by
  rw [tallyAt_apply]
  exact if_neg fun h => nomatch (kcell_eq_iff (k := none) (k' := some (true, j)) |>.mp h.1).2
theorem barDue_recv (j i : Fin 3) (d c : Dev nD) : barDue j d (recvCell i c) () = 0 := by
  rw [tallyAt_apply]
  exact if_neg fun h => nomatch (kcell_eq_iff (k := some (true, i)) (k' := none) |>.mp h.1).2
theorem recvDue_recv (j i : Fin 3) (d c : Dev nD) : recvDue j d (recvCell i c) () = if j = i ∧ d = up j.rev c then N else 0 := by
  rw [tallyAt_apply]
  refine if_congr ?_ rfl rfl
  rw [and_iff_left rfl, kcell_eq_iff (k := some (true, i)) (k' := some (true, j)), up_eq_iff, and_comm]
  refine and_congr ⟨fun h => (Prod.mk.inj (Option.some.inj h)).2.symm, fun h => h ▸ rfl⟩ Iff.rfl

/-- What a device owes, written as one sum. -/
theorem debt_apply (d : Dev nD) (g : GSem nD τ sig) :
    debt₆ d g () = (∑ j : Fin 3, recvDue j d g ()) + ∑ j : Fin 3, barDue j d g () := by
  unfold debt₆ debt₅ debt₄ debt₃ debt₂ debt₁
  simp only [Pi.add_apply, Finsupp.add_apply, Fin.sum_univ_three, Pi.zero_apply, Finsupp.zero_apply]
  omega

theorem owed_bar (d c : Dev nD) : debt₆ d (barCell c) () = ∑ j : Fin 3, if d = up j.rev c then 1 else 0 := by
  rw [debt_apply, Finset.sum_congr rfl fun j _ => recvDue_bar j d c, Finset.sum_const_zero, Nat.zero_add,
    Finset.sum_congr rfl fun j _ => barDue_bar j d c]
theorem owed_recv (i : Fin 3) (d c : Dev nD) : debt₆ d (recvCell i c) () = if d = up i.rev c then N else 0 := by
  rw [debt_apply, Finset.sum_congr rfl fun j _ => barDue_recv j i d c, Finset.sum_const_zero, Nat.add_zero,
    Finset.sum_congr rfl fun j _ => recvDue_recv j i d c]
  simp only [ite_and]
  rw [Finset.sum_ite_eq' Finset.univ i, if_pos (Finset.mem_univ _)]

theorem launch_bar (c : Dev nD) :
    tallyOn (barCell c) (launchCredit (Pipeline.owing debt₆) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => (Finset.sum_ite_eq' Finset.univ (up j.rev c) fun _ => 1).trans (if_pos (Finset.mem_univ _))]
  rfl
theorem launch_recv (i : Fin 3) (c : Dev nD) :
    tallyOn (recvCell i c) (launchCredit (Pipeline.owing debt₆) 0 (recvCell i c)) = (tallyAt (recvCell i c) () N : CellTallies nD τ sig Unit) := by
  unfold tallyAt; refine congrArg _ (Finsupp.ext fun u => ?_); cases u
  rw [Pipeline.launchCredit_owing, Finsupp.single_eq_same, Finset.sum_congr rfl fun d _ => owed_recv i d c,
    Finset.sum_ite_eq' Finset.univ (up i.rev c) fun _ => N, if_pos (Finset.mem_univ _)]

theorem creds (c : Dev nD) : (Pipeline.launchCred debt₆ c : sProp 𝕄) ⊢ credits c := by
  have key : (bigSep Finset.univ fun k : Which => (cred (tallyOn (kcell (c, k)) (launchCredit (Pipeline.owing debt₆) 0 (kcell (c, k)))) : sProp 𝕄))
      ⊢ credits c := by
    unfold credits
    rw [bigSep_which, ← launch_bar, ← launch_recv, ← launch_recv, ← launch_recv]
    iintro ⟨HB, -, -, -, H0, H1, H2⟩
    isplitl [HB]; · iexact HB
    isplitl [H0]; · iexact H0
    isplitl [H1]; · iexact H1
    iexact H2
  unfold Pipeline.launchCred
  refine (BI.bigSep_subset (Finset.subset_univ (Finset.univ.map ⟨csem, csem_inj⟩))).trans ?_
  rw [bigSep_map]
  exact key

/-! ## Entry and exit -/

theorem start_intro (c : Dev nD) :
    iprop(Pipeline.unscopedRestP Pipeline.Prefetch.none cfg0.spec c (fun b => m ((c : Thread nD τ).loc b)) ∗ levAts L lv
        ∗ Pipeline.launchCred debt₆ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁
  rw [sems0_eq]
  iintro ⟨Hr, Hu, Ho⟩
  isplitl [Hu]; · iexact Hu
  isplitl [Ho]; · iexact Ho
  iexists (full m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the two arrays hold after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters at zero every fair execution of the thirty-two devices ends, each device's arrays
    hold `finalA`, and all counters are at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := debt₆) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The array of `x` is as before. -/
theorem finalA_x (c : Dev nD) : finalA m ρ c (0 : Fin 2) = m ((c : Thread nD τ).loc main_arg0) :=
  (dats (F := F) m ρ 0 c).arrAt_in (0 : Fin 2) rfl _

/-- The array of the result is what the device computed. -/
theorem finalA_o (c : Dev nD) : finalA m ρ c (1 : Fin 2) = outAt m ρ c := by
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  have ho : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from flush0_1 _, if_pos rfl]
    exact View.read_write_univ _ _
  exact (hr _).symm.trans ho

/-- The staged block is all of the device's `x`. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The run, as the frame claims state it: it ends with `x` unchanged and every counter at zero. -/
theorem run_frame : θ_run defs (onTc (τ := τ) (main (F := F))) (s₀ m ρ)
    (fun r => (∀ c : Dev nD, r.2.mem ((c.tc : Thread nD τ).loc main_arg0) = m ((c.tc : Thread nD τ).loc main_arg0)) ∧ r.2.sem = fun _ => 0) :=
  (θ_run defs _ _).mono (fun r h => ⟨fun c => (h.1 c (0 : Fin 2)).trans (finalA_x m ρ c), h.2⟩) (run_main m ρ)

end Cert.KernelIdeal.Run

end
-- ==== Proof.TopMath.lean ====
/-
The largest entries of a family of extended reals, by repeated maximum.

Everything here is about the set of the different values of a family, -∞ left out. Taking the maximum and then putting
-∞ in every place that holds it takes the greatest element off that set, whatever the places. A selection that may lose
small entries keeps what matters above a bound `v`, as long as few enough places hold more than `v`.
-/
module

public import Mathlib.Data.EReal.Basic
public import Mathlib.Data.Fintype.Card
public import Mathlib.Order.Interval.Finset.Fin

@[expose] public section

noncomputable section

namespace Cert.TopMath

variable {ι κ : Type} [Fintype ι] [Fintype κ]

/-! ## Repeated maximum -/

/-- The different values of a family, -∞ left out. -/
def vals (f : ι → EReal) : Finset EReal := (Finset.univ.image f).erase ⊥

/-- The greatest entry. -/
def top (f : ι → EReal) : EReal := Finset.univ.sup f

open Classical in
/-- The family with -∞ in every place that holds the greatest entry. -/
def drop (f : ι → EReal) : ι → EReal := fun k => if f k = top f then ⊥ else f k

/-- A set of values without its greatest element. -/
def peel (S : Finset EReal) : Finset EReal := S.erase (S.sup id)

/-- The element with `i` greater ones in the set; -∞ when there is none. -/
def nth (S : Finset EReal) (i : ℕ) : EReal := (peel^[i] S).sup id

/-- The first `k` of a set in descending order, as a set. -/
def tops (k : ℕ) (S : Finset EReal) : Finset EReal := ((Finset.range k).image (nth S)).erase ⊥

theorem mem_vals {f : ι → EReal} {u : EReal} : u ∈ vals f ↔ u ≠ ⊥ ∧ ∃ k, f k = u := by simp [vals]

theorem mem_tops {k : ℕ} {S : Finset EReal} {u : EReal} : u ∈ tops k S ↔ u ≠ ⊥ ∧ ∃ i < k, nth S i = u := by simp [tops]

/-- The greatest entry is the greatest of the different values. -/
theorem top_eq (f : ι → EReal) : top f = (vals f).sup id := by
  refine le_antisymm (Finset.sup_le fun k _ => ?_) (Finset.sup_le fun u hu => ?_)
  · by_cases h : f k = ⊥
    · rw [h]; exact bot_le
    · exact Finset.le_sup (f := id) (mem_vals.2 ⟨h, k, rfl⟩)
  · obtain ⟨k, hk⟩ := (mem_vals.1 hu).2
    exact hk ▸ Finset.le_sup (f := f) (Finset.mem_univ k)

/-- Putting -∞ in place of the greatest entry takes it off the set of values. -/
theorem vals_drop (f : ι → EReal) : vals (drop f) = peel (vals f) := by
  ext u
  rw [peel, ← top_eq, Finset.mem_erase, mem_vals, mem_vals]
  constructor
  · rintro ⟨hu, k, hk⟩
    by_cases h : f k = top f
    · exact absurd (by rw [← hk, drop, if_pos h]) hu
    · rw [drop, if_neg h] at hk
      exact ⟨hk ▸ h, hu, k, hk⟩
  · rintro ⟨h, hu, k, hk⟩
    exact ⟨hu, k, by rw [drop, if_neg (hk ▸ h), hk]⟩

theorem vals_iterate (f : ι → EReal) (i : ℕ) : vals (drop^[i] f) = peel^[i] (vals f) := by
  induction i generalizing f with
  | zero => rfl
  | succ i ih => rw [Function.iterate_succ_apply, ih, vals_drop, Function.iterate_succ_apply]

/-- The maximum of round `i` is the `i`-th of the different values. -/
theorem top_iterate (f : ι → EReal) (i : ℕ) : top (drop^[i] f) = nth (vals f) i := by rw [top_eq, vals_iterate]; rfl

theorem sup_mem {S : Finset EReal} (h : S.Nonempty) : S.sup id ∈ S := by
  obtain ⟨i, hi, e⟩ := Finset.exists_mem_eq_sup S h id
  rw [e]; exact hi

/-- An element with `i` greater ones is the `i`-th. -/
theorem nth_eq {S : Finset EReal} {v : EReal} {i : ℕ} (hv : v ∈ S) (hc : (S.filter (v < ·)).card = i) : nth S i = v := by
  induction i generalizing S with
  | zero =>
    refine le_antisymm (Finset.sup_le fun u hu => ?_) (Finset.le_sup (f := id) hv)
    by_contra h
    have : u ∈ S.filter (v < ·) := Finset.mem_filter.2 ⟨hu, not_le.1 h⟩
    rw [Finset.card_eq_zero.1 hc] at this
    exact absurd this (Finset.notMem_empty u)
  | succ i ih =>
    obtain ⟨w, hw⟩ := Finset.card_pos.1 (hc.symm ▸ Nat.succ_pos i : 0 < (S.filter (v < ·)).card)
    obtain ⟨hwS, hvw⟩ := Finset.mem_filter.1 hw
    have hM : v < S.sup id := lt_of_lt_of_le hvw (Finset.le_sup (f := id) hwS)
    have hMS : S.sup id ∈ S.filter (v < ·) := Finset.mem_filter.2 ⟨sup_mem ⟨v, hv⟩, hM⟩
    have key : (peel S).filter (v < ·) = (S.filter (v < ·)).erase (S.sup id) := by rw [peel, Finset.filter_erase]
    have := ih (S := peel S) (Finset.mem_erase.2 ⟨hM.ne, hv⟩) (by rw [key, Finset.card_erase_of_mem hMS, hc]; rfl)
    rw [← this, nth, Function.iterate_succ_apply]; rfl

/-- Past the last element there is only -∞. -/
theorem nth_bot {S : Finset EReal} {i : ℕ} (h : S.card ≤ i) : nth S i = ⊥ := by
  induction i generalizing S with
  | zero =>
    rw [Finset.card_eq_zero.1 (Nat.le_zero.1 h)]; rfl
  | succ i ih =>
    have hp : (peel S).card ≤ i := by
      rcases S.eq_empty_or_nonempty with rfl | hS
      · exact Nat.zero_le i
      · rw [peel, Finset.card_erase_of_mem (sup_mem hS)]; omega
    have := ih hp
    rwa [nth, ← Function.iterate_succ_apply] at this

theorem iterate_subset (S : Finset EReal) (i : ℕ) : peel^[i] S ⊆ S := by
  induction i generalizing S with
  | zero => exact Finset.Subset.refl S
  | succ i ih => rw [Function.iterate_succ_apply]; exact (ih _).trans (Finset.erase_subset _ _)

theorem nth_mem (S : Finset EReal) (i : ℕ) : nth S i = ⊥ ∨ nth S i ∈ S := by
  rcases (peel^[i] S).eq_empty_or_nonempty with h | h
  · left; rw [nth, h]; rfl
  · exact Or.inr (iterate_subset S i (sup_mem h))

/-! ## Selections that agree above a bound -/

/-- `A` and `S` have the same elements from `v` on, -∞ left out. -/
def Cov (v : EReal) (A S : Finset EReal) : Prop := ∀ u, v ≤ u → u ≠ ⊥ → (u ∈ A ↔ u ∈ S)

/-- How many elements exceed `v`. -/
def above (v : EReal) (S : Finset EReal) : ℕ := (S.filter (v < ·)).card

/-- In how many places a family exceeds `v`. -/
def places (v : EReal) (f : ι → EReal) : ℕ := (Finset.univ.filter fun k => v < f k).card

theorem Cov.trans {v : EReal} {A B C : Finset EReal} (h : Cov v A B) (h' : Cov v B C) : Cov v A C :=
  fun u hu hb => (h u hu hb).trans (h' u hu hb)

theorem Cov.union {v : EReal} {A B S T : Finset EReal} (h : Cov v A S) (h' : Cov v B T) : Cov v (A ∪ B) (S ∪ T) :=
  fun u hu hb => by rw [Finset.mem_union, Finset.mem_union, h u hu hb, h' u hu hb]

theorem Cov.above_eq {v : EReal} {A S : Finset EReal} (h : Cov v A S) : above v A = above v S := by
  unfold above
  congr 1
  ext u
  rw [Finset.mem_filter, Finset.mem_filter]
  exact and_congr_left fun hu => h u hu.le (ne_bot_of_gt hu)

theorem above_vals_le (v : EReal) (f : ι → EReal) : above v (vals f) ≤ places v f := by
  refine (Finset.card_le_card (t := (Finset.univ.filter fun k => v < f k).image f) fun u hu => ?_).trans Finset.card_image_le
  obtain ⟨hu, hv⟩ := Finset.mem_filter.1 hu
  obtain ⟨k, rfl⟩ := (mem_vals.1 hu).2
  exact Finset.mem_image_of_mem f (Finset.mem_filter.2 ⟨Finset.mem_univ k, hv⟩)

/-- The first `k` agree with the set above `v` if fewer than `k` elements exceed `v`. -/
theorem cov_tops {v : EReal} {S : Finset EReal} {k : ℕ} (h : above v S < k) : Cov v (tops k S) S := by
  intro u hu hb
  rw [mem_tops]
  constructor
  · rintro ⟨_, i, _, rfl⟩
    exact (nth_mem S i).resolve_left hb
  · intro hS
    refine ⟨hb, _, lt_of_le_of_lt (Finset.card_le_card fun w hw => ?_) h, nth_eq hS rfl⟩
    obtain ⟨hwS, hw⟩ := Finset.mem_filter.1 hw
    exact Finset.mem_filter.2 ⟨hwS, lt_of_le_of_lt hu hw⟩

/-- Of what agrees with `S` above `v`, the first `k` still do. -/
theorem Cov.tops {v : EReal} {A S : Finset EReal} {k : ℕ} (h : Cov v A S) (hk : above v S < k) : Cov v (tops k A) S :=
  (cov_tops (h.above_eq ▸ hk)).trans h

/-- The `j`-th of a set that agrees with `S` above `v` is `v`, if `v` is in `S` and has `j` greater ones there, or is -∞
and `S` has at most `j` elements above it. -/
theorem Cov.nth_eq {v : EReal} {A S : Finset EReal} {j : ℕ} (h : Cov v A S) (hbot : ⊥ ∉ A)
    (hv : (v ∈ S ∧ v ≠ ⊥ ∧ above v S = j) ∨ (v = ⊥ ∧ above v S ≤ j)) : nth A j = v := by
  rcases hv with ⟨hS, hb, hj⟩ | ⟨rfl, hj⟩
  · exact TopMath.nth_eq ((h v le_rfl hb).2 hS) (h.above_eq.trans hj)
  · refine nth_bot (le_trans (Finset.card_le_card fun u hu => ?_) (h.above_eq.trans_le hj))
    exact Finset.mem_filter.2 ⟨hu, bot_lt_iff_ne_bot.2 fun e => hbot (e ▸ hu)⟩

theorem bot_notMem_vals (f : ι → EReal) : ⊥ ∉ vals f := fun h => (mem_vals.1 h).1 rfl

/-! ## The larger and the smaller of two halves -/

/-- Two injections of `ι` whose ranges share `κ` between them. -/
structure Halves (a b : ι → κ) : Prop where
  inl : Function.Injective a
  inr : Function.Injective b
  ne : ∀ p q, a p ≠ b q
  cover : ∀ q, (∃ p, a p = q) ∨ ∃ p, b p = q

variable {a b : ι → κ}

/-- The larger entries of the two halves. -/
def hi (a b : ι → κ) (f : κ → EReal) : ι → EReal := fun p => max (f (a p)) (f (b p))
/-- The smaller entries of the two halves. -/
def lo (a b : ι → κ) (f : κ → EReal) : ι → EReal := fun p => min (f (a p)) (f (b p))

/-- Together they have the values of the whole. -/
theorem Halves.vals_union (h : Halves a b) (f : κ → EReal) : vals (hi a b f) ∪ vals (lo a b f) = vals f := by
  ext u
  rw [Finset.mem_union, mem_vals, mem_vals, mem_vals, ← and_or_left]
  refine and_congr_right fun _ => ⟨?_, ?_⟩
  · rintro (⟨p, hp⟩ | ⟨p, hp⟩)
    · rcases max_choice (f (a p)) (f (b p)) with e | e
      · exact ⟨_, e.symm.trans hp⟩
      · exact ⟨_, e.symm.trans hp⟩
    · rcases min_choice (f (a p)) (f (b p)) with e | e
      · exact ⟨_, e.symm.trans hp⟩
      · exact ⟨_, e.symm.trans hp⟩
  · rintro ⟨q, rfl⟩
    have key : ∀ p, f q = f (a p) ∨ f q = f (b p) → hi a b f p = f q ∨ lo a b f p = f q := fun p hp => by
      rcases le_total (f (a p)) (f (b p)) with e | e
      · exact hp.elim (fun h => .inr ((min_eq_left e).trans h.symm)) fun h => .inl ((max_eq_right e).trans h.symm)
      · exact hp.elim (fun h => .inl ((max_eq_left e).trans h.symm)) fun h => .inr ((min_eq_right e).trans h.symm)
    rcases h.cover q with ⟨p, rfl⟩ | ⟨p, rfl⟩
    · exact (key p (.inl rfl)).imp (⟨p, ·⟩) (⟨p, ·⟩)
    · exact (key p (.inr rfl)).imp (⟨p, ·⟩) (⟨p, ·⟩)

/-- The larger entries exceed `v` in no more places than the whole. -/
theorem Halves.places_hi (h : Halves a b) (v : EReal) (f : κ → EReal) : places v (hi a b f) ≤ places v f := by
  classical
  refine Finset.card_le_card_of_injOn (fun p => if v < f (a p) then a p else b p) (fun p hp => ?_) fun p _ q _ e => ?_
  · have hp := (Finset.mem_filter.1 hp).2
    refine Finset.mem_filter.2 ⟨Finset.mem_univ _, ?_⟩
    by_cases hv : v < f (a p)
    · simp only [if_pos hv]; exact hv
    · simp only [if_neg hv]; exact (lt_max_iff.1 hp).resolve_left hv
  · dsimp only at e
    split_ifs at e
    · exact h.inl e
    · exact absurd e (h.ne p q)
    · exact absurd e.symm (h.ne q p)
    · exact h.inr e

/-- The smaller entries exceed `v` in at most half as many places as the whole. -/
theorem Halves.places_lo (h : Halves a b) (v : EReal) (f : κ → EReal) : 2 * places v (lo a b f) ≤ places v f := by
  letI := Classical.decEq κ
  obtain ⟨T, hT⟩ : ∃ T, T = Finset.univ.filter fun p => v < lo a b f p := ⟨_, rfl⟩
  have hd : Disjoint (T.image a) (T.image b) := by
    rw [Finset.disjoint_left]
    rintro _ hp hq
    obtain ⟨p, _, rfl⟩ := Finset.mem_image.1 hp
    obtain ⟨q, _, e⟩ := Finset.mem_image.1 hq
    exact h.ne p q e.symm
  have hv : ∀ p ∈ T, v < f (a p) ∧ v < f (b p) := fun p hp => by
    rw [hT] at hp
    exact lt_min_iff.1 (Finset.mem_filter.1 hp).2
  have hs : T.image a ∪ T.image b ⊆ Finset.univ.filter fun q => v < f q :=
    Finset.union_subset
      (Finset.image_subset_iff.2 fun p hp => Finset.mem_filter.2 ⟨Finset.mem_univ _, (hv p hp).1⟩)
      (Finset.image_subset_iff.2 fun p hp => Finset.mem_filter.2 ⟨Finset.mem_univ _, (hv p hp).2⟩)
  have := Finset.card_le_card hs
  rw [Finset.card_union_of_disjoint hd, Finset.card_image_of_injective _ h.inl, Finset.card_image_of_injective _ h.inr] at this
  unfold places
  rw [← hT]
  omega

/-! ## The tournament of depth two -/

/-- The candidates of a block: the halves' larger and smaller entries, halved once more, give 8 and 4, 4 and 2, of which
8 and 4 stay, of which 8 stay. -/
def tournament {ι₁ ι₂ : Type} [Fintype ι₁] [Fintype ι₂] (a b : ι₁ → κ) (a' b' : ι₂ → ι₁) (f : κ → EReal) : Finset EReal :=
  tops 8 (tops 8 (tops 8 (vals (hi a' b' (hi a b f))) ∪ tops 4 (vals (lo a' b' (hi a b f)))) ∪
    tops 4 (tops 4 (vals (hi a' b' (lo a b f))) ∪ tops 2 (vals (lo a' b' (lo a b f)))))

/-- The tournament loses nothing from `v` on, if fewer than eight places of the block exceed `v`. -/
theorem cov_tournament {ι₁ ι₂ : Type} [Fintype ι₁] [Fintype ι₂] {a b : ι₁ → κ} {a' b' : ι₂ → ι₁} (h : Halves a b)
    (h' : Halves a' b') {v : EReal} {f : κ → EReal} (hf : places v f < 8) : Cov v (tournament a b a' b' f) (vals f) := by
  have e₁ := h.places_hi v f
  have e₂ := h.places_lo v f
  have e₁₁ := h'.places_hi v (hi a b f)
  have e₁₂ := h'.places_lo v (hi a b f)
  have e₂₁ := h'.places_hi v (lo a b f)
  have e₂₂ := h'.places_lo v (lo a b f)
  have step : ∀ {ι : Type} [Fintype ι] (g : ι → EReal) (k : ℕ), places v g < k → above v (vals g) < k :=
    fun g k hg => lt_of_le_of_lt (above_vals_le v g) hg
  have c₁ := ((cov_tops (step (hi a' b' (hi a b f)) 8 (by omega))).union (cov_tops (step (lo a' b' (hi a b f)) 4 (by omega))))
  have c₂ := ((cov_tops (step (hi a' b' (lo a b f)) 4 (by omega))).union (cov_tops (step (lo a' b' (lo a b f)) 2 (by omega))))
  rw [h'.vals_union] at c₁ c₂
  have c := (c₁.tops (step _ 8 (by omega))).union (c₂.tops (step _ 4 (by omega)))
  rw [h.vals_union] at c
  exact c.tops (step _ 8 hf)

/-! ## Families made of first elements -/

/-- A family of the first `k` elements has them as its values. -/
theorem vals_nth {k : ℕ} {S : Finset EReal} (g : Fin k → EReal) (h : ∀ i, g i = nth S i.val) : vals g = tops k S := by
  ext u
  rw [mem_vals, mem_tops]
  refine and_congr_right fun _ => ⟨?_, ?_⟩
  · rintro ⟨i, rfl⟩; exact ⟨i.val, i.isLt, (h i).symm⟩
  · rintro ⟨i, hi, rfl⟩; exact ⟨⟨i, hi⟩, h _⟩

/-- A family in two pieces has the values of both. -/
theorem vals_pieces {p q n : ℕ} (hn : n = p + q) (g : Fin n → EReal) (g₁ : Fin p → EReal) (g₂ : Fin q → EReal)
    (h₁ : ∀ i : Fin p, g ⟨i.val, by omega⟩ = g₁ i) (h₂ : ∀ i : Fin q, g ⟨p + i.val, by omega⟩ = g₂ i) :
    vals g = vals g₁ ∪ vals g₂ := by
  ext u
  rw [Finset.mem_union, mem_vals, mem_vals, mem_vals, ← and_or_left]
  refine and_congr_right fun _ => ⟨?_, ?_⟩
  · rintro ⟨i, rfl⟩
    by_cases hi : i.val < p
    · exact .inl ⟨⟨i.val, hi⟩, (h₁ _).symm⟩
    · refine .inr ⟨⟨i.val - p, by omega⟩, (h₂ _).symm.trans (congrArg g (Fin.ext ?_))⟩
      show p + (i.val - p) = i.val
      omega
  · rintro (⟨i, rfl⟩ | ⟨i, rfl⟩)
    · exact ⟨_, h₁ i⟩
    · exact ⟨_, h₂ i⟩

/-! ## A row in descending order -/

/-- Let `π` list the places of `f` in descending order, and let the entries up to `j` strictly descend except where they
are -∞. Then at most `j` places exceed the `j`-th entry, -/
theorem places_sorted {n : ℕ} {f : Fin n → EReal} {π : Fin n → Fin n} (hπ : Function.Surjective π)
    (hd : ∀ i j, i ≤ j → f (π j) ≤ f (π i)) (j : Fin n) : places (f (π j)) f ≤ j.val := by
  refine (Finset.card_le_card (t := (Finset.univ.filter fun i : Fin n => i < j).image π) fun q hq => ?_).trans
    (Finset.card_image_le.trans ?_)
  · obtain ⟨i, rfl⟩ := hπ q
    refine Finset.mem_image_of_mem π (Finset.mem_filter.2 ⟨Finset.mem_univ i, ?_⟩)
    by_contra h
    exact absurd (Finset.mem_filter.1 hq).2 (not_lt.2 (hd j i (not_lt.1 h)))
  · refine le_of_eq ?_
    have : (Finset.univ.filter fun i : Fin n => i < j) = Finset.Iio j := by ext i; simp
    rw [this, Fin.card_Iio]

/-- and it is the `j`-th of the different values. -/
theorem above_sorted {n : ℕ} {f : Fin n → EReal} {π : Fin n → Fin n} (hπ : Function.Surjective π)
    (hd : ∀ i j, i ≤ j → f (π j) ≤ f (π i)) (j : Fin n)
    (hs : ∀ i i' : Fin n, i'.val = i.val + 1 → i' ≤ j → f (π i) ≠ f (π i') ∨ f (π i) = ⊥) :
    (f (π j) ∈ vals f ∧ f (π j) ≠ ⊥ ∧ above (f (π j)) (vals f) = j.val) ∨
      (f (π j) = ⊥ ∧ above (f (π j)) (vals f) ≤ j.val) := by
  have hle := (above_vals_le (f (π j)) f).trans (places_sorted hπ hd j)
  by_cases hb : f (π j) = ⊥
  · exact .inr ⟨hb, hle⟩
  refine .inl ⟨mem_vals.2 ⟨hb, _, rfl⟩, hb, le_antisymm hle ?_⟩
  have strict : ∀ i i' : Fin n, i < i' → i' ≤ j → f (π i') < f (π i) := by
    intro i i' hi hj
    have hlt : i.val < i'.val := hi
    have hn : i.val + 1 < n := by omega
    have h₁ : f (π ⟨i.val + 1, hn⟩) ≤ f (π i) := hd _ _ (by show i.val ≤ i.val + 1; omega)
    have h₂ : f (π i') ≤ f (π ⟨i.val + 1, hn⟩) := hd _ _ (by show i.val + 1 ≤ i'.val; omega)
    have hbi : f (π i) ≠ ⊥ := fun e => hb (le_bot_iff.1 (e ▸ hd i j (hi.le.trans hj)))
    have hij : (⟨i.val + 1, hn⟩ : Fin n) ≤ j := le_trans (by show i.val + 1 ≤ i'.val; omega) hj
    exact lt_of_le_of_lt h₂ (lt_of_le_of_ne h₁ (((hs i _ rfl hij).resolve_right hbi).symm))
  have hinj : Set.InjOn (fun i => f (π i)) (Finset.Iio j : Finset (Fin n)) := by
    intro i hi i' hi' e
    rw [Finset.mem_coe, Finset.mem_Iio] at hi hi'
    rcases lt_trichotomy i i' with h | h | h
    · exact absurd e (strict i i' h hi'.le).ne'
    · exact h
    · exact absurd e (strict i' i h hi.le).ne
  calc j.val = (Finset.Iio j).card := (Fin.card_Iio j).symm
    _ = ((Finset.Iio j).image fun i => f (π i)).card := (Finset.card_image_of_injOn hinj).symm
    _ ≤ above (f (π j)) (vals f) := Finset.card_le_card fun u hu => by
      obtain ⟨i, hi, rfl⟩ := Finset.mem_image.1 hu
      have := strict i j (Finset.mem_Iio.1 hi) le_rfl
      exact Finset.mem_filter.2 ⟨mem_vals.2 ⟨ne_bot_of_gt this, _, rfl⟩, this⟩

end Cert.TopMath
-- ==== Proof.KernelIdealValue.lean ====
/-
What the kernel's arithmetic computes, in the extended reals.

A round takes the maximum of every row and puts -∞ in every place that holds it. The printed values are a handful of
such rounds: `candOf` is the tournament of a block, and `outOf` takes the first eight of the candidates of four devices.
-/
module

public import proofs.«01_k».proof.Proof.KernelIdealRing
public import proofs.«01_k».proof.Proof.TopMath
public import Idealize.ShloMosaic.Lib.Pointwise

@[expose] public section

noncomputable section

namespace Cert.KernelIdeal.Run

open Cert.KernelIdeal Cert.KernelIdeal.Gen Cert.TopMath
open Idealize.ShloMosaic

variable {F : FTy → Type} [FloatOps F]

/-! ## The printed values as rounds -/

section Rounds

/-- 256 rows of `n` entries. -/
abbrev Sq (n : ℕ) : Shape := ⟨2, ![256, n]⟩

variable {n : ℕ} (hr : (Sq n).Reduces [1] S256) (hb : S256x1.Broadcasts (Sq n))

/-- The maximum of every row, as a column. -/
def colMax (d : FVec F (Sq n) .f32) : FVec F S256x1 .f32 :=
  shapeCast S256x1 (multiReduction .maximumf [1] S256 d 0xFF800000#32 hr (.inl rfl) rfl) shapeCasts_S256_S256x1

/-- The rows with -∞ in every place that equals the row's maximum. -/
def strike (d : FVec F (Sq n) .f32) : FVec F (Sq n) .f32 :=
  select (cmpf .oeq d (broadcastTo (Sq n) (colMax hr d) hb)) (broadcast (Sq n) (Scalar.ofBits .f32 0xFF800000#32)) d

/-- The rows after `i` rounds. -/
def after (d : FVec F (Sq n) .f32) : ℕ → FVec F (Sq n) .f32
  | 0 => d
  | i + 1 => strike hr hb (after d i)

/-- The maxima of eight rounds, side by side; -/
def top8 (d : FVec F (Sq n) .f32) : FVec F S256x8 .f32 :=
  concatenate S256x8 1 [⟨S256x1, colMax hr (after hr hb d 0)⟩, ⟨S256x1, colMax hr (after hr hb d 1)⟩,
    ⟨S256x1, colMax hr (after hr hb d 2)⟩, ⟨S256x1, colMax hr (after hr hb d 3)⟩, ⟨S256x1, colMax hr (after hr hb d 4)⟩,
    ⟨S256x1, colMax hr (after hr hb d 5)⟩, ⟨S256x1, colMax hr (after hr hb d 6)⟩, ⟨S256x1, colMax hr (after hr hb d 7)⟩]
    concatenates_S256x1_S256x1_S256x1_S256x1_S256x1_S256x1_S256x1_S256x1_S256x8_d1
/-- of four; -/
def top4 (d : FVec F (Sq n) .f32) : FVec F S256x4 .f32 :=
  concatenate S256x4 1 [⟨S256x1, colMax hr (after hr hb d 0)⟩, ⟨S256x1, colMax hr (after hr hb d 1)⟩,
    ⟨S256x1, colMax hr (after hr hb d 2)⟩, ⟨S256x1, colMax hr (after hr hb d 3)⟩]
    concatenates_S256x1_S256x1_S256x1_S256x1_S256x4_d1
/-- of two. -/
def top2 (d : FVec F (Sq n) .f32) : FVec F S256x2 .f32 :=
  concatenate S256x2 1 [⟨S256x1, colMax hr (after hr hb d 0)⟩, ⟨S256x1, colMax hr (after hr hb d 1)⟩]
    concatenates_S256x1_S256x1_S256x2_d1

end Rounds

/-- Eight columns and four, side by side, -/
def beside8 (a : FVec F S256x8 .f32) (b : FVec F S256x4 .f32) : FVec F S256x12 .f32 :=
  concatenate S256x12 1 [⟨S256x8, a⟩, ⟨S256x4, b⟩] concatenates_S256x8_S256x4_S256x12_d1
/-- four columns and two. -/
def beside4 (a : FVec F S256x4 .f32) (b : FVec F S256x2 .f32) : FVec F S256x6 .f32 :=
  concatenate S256x6 1 [⟨S256x4, a⟩, ⟨S256x2, b⟩] concatenates_S256x4_S256x2_S256x6_d1

abbrev r256 := reduces_S256x256_S256
abbrev b256 := broadcasts_S256x1_S256x256
abbrev r12 := reduces_S256x12_S256
abbrev b12 := broadcasts_S256x1_S256x12
abbrev r6 := reduces_S256x6_S256
abbrev b6 := broadcasts_S256x1_S256x6

/-- The larger and the smaller entries of the halves of a block, -/
def hi512 (x : FVec F S256x1024 .f32) : FVec F S256x512 .f32 := k0_pay2 x
def lo512 (x : FVec F S256x1024 .f32) : FVec F S256x512 .f32 := k0_pay3 x
/-- and of half a block. -/
def hi256 (x : FVec F S256x512 .f32) : FVec F S256x256 .f32 :=
  maximumf (extractStridedSlice S256x256 ![0, 0] x slices_S256x512_o0_0_S256x256)
    (extractStridedSlice S256x256 ![0, 256] x slices_S256x512_o0_256_S256x256)
def lo256 (x : FVec F S256x512 .f32) : FVec F S256x256 .f32 :=
  minimumf (extractStridedSlice S256x256 ![0, 0] x slices_S256x512_o0_0_S256x256)
    (extractStridedSlice S256x256 ![0, 256] x slices_S256x512_o0_256_S256x256)

/-- The eight columns that a block keeps. -/
def keptCols (x : FVec F S256x1024 .f32) : FVec F S256x8 .f32 :=
  top8 r12 b12 (beside8
    (top8 r12 b12 (beside8 (top8 r256 b256 (hi256 (hi512 x))) (top4 r256 b256 (lo256 (hi512 x)))))
    (top4 r6 b6 (beside4 (top4 r256 b256 (hi256 (lo512 x))) (top2 r256 b256 (lo256 (lo512 x))))))

theorem pay20_eq (v w : FVec F S256x256 .f32) :
    k0_pay20 w (k0_pay6 v) (k0_pay8 v) (k0_pay10 v) (k0_pay12 v) (k0_pay14 v) (k0_pay16 v) (k0_pay18 v) (k0_pay19 v)
      = beside8 (top8 r256 b256 v) (top4 r256 b256 w) := rfl

/-- A block's candidates are the columns it keeps, turned on their side. -/
theorem candOf_eq (x : FVec F S256x1024 .f32) :
    candOf x = shapeCast S1x8x256 (transpose S8x256 [1, 0] (keptCols x) transposes_S256x8_p1_0_S8x256)
      shapeCasts_S8x256_S1x8x256 := rfl

/-! The same along the other axis, for the candidates of the four devices. -/

/-- The maximum of every column, as a row. -/
def rowMax (d : FVec F S32x256 .f32) : FVec F S1x256 .f32 :=
  shapeCast S1x256 (multiReduction .maximumf [0] S256 d 0xFF800000#32 reduces_S32x256_S256 (.inl rfl) rfl)
    shapeCasts_S256_S1x256

/-- The columns with -∞ in every place that equals the column's maximum. -/
def strikeR (d : FVec F S32x256 .f32) : FVec F S32x256 .f32 :=
  select (cmpf .oeq d (broadcastTo S32x256 (rowMax d) broadcasts_S1x256_S32x256))
    (broadcast S32x256 (Scalar.ofBits .f32 0xFF800000#32)) d

/-- The columns after `i` rounds. -/
def afterR (d : FVec F S32x256 .f32) : ℕ → FVec F S32x256 .f32
  | 0 => d
  | i + 1 => strikeR (afterR d i)

/-- The result is the maxima of eight rounds, turned upright. -/
theorem outOf_eq (k : FVec F S4x8x256 .f32) :
    outOf k = transpose S256x8 [1, 0] (concatenate S8x256 0
      [⟨S1x256, rowMax (afterR (k0_pay44 k) 0)⟩, ⟨S1x256, rowMax (afterR (k0_pay44 k) 1)⟩,
        ⟨S1x256, rowMax (afterR (k0_pay44 k) 2)⟩, ⟨S1x256, rowMax (afterR (k0_pay44 k) 3)⟩,
        ⟨S1x256, rowMax (afterR (k0_pay44 k) 4)⟩, ⟨S1x256, rowMax (afterR (k0_pay44 k) 5)⟩,
        ⟨S1x256, rowMax (afterR (k0_pay44 k) 6)⟩, ⟨S1x256, rowMax (afterR (k0_pay44 k) 7)⟩]
      concatenates_S1x256_S1x256_S1x256_S1x256_S1x256_S1x256_S1x256_S1x256_S8x256_d0) transposes_S8x256_p1_0_S256x8 := rfl

/-! ## The rounds in the extended reals -/

theorem ofBits_bot : Ideal.ofBits .f32 0xFF800000#32 = ⊥ := by simp [Ideal.ofBits, Ideal.ieee]

/-- One row. -/
def row {n : ℕ} (d : FVec Ideal (Sq n) .f32) (r : Fin 256) : Fin n → EReal := fun k => d (ix2 r k)

/-- Comparing two extended reals and choosing by the result. -/
theorem select_oeq (x y a b : EReal) : Scalar.select (Ideal.cmp .oeq x y) a b = if x = y then a else b := by
  by_cases h : x = y
  · rw [if_pos h]; simp [Scalar.select, Ideal.cmp, h]
  · rw [if_neg h]; simp [Scalar.select, Ideal.cmp, h]

section Reads

variable {n : ℕ} (hr : (Sq n).Reduces [1] S256) (hb : S256x1.Broadcasts (Sq n))

/-- The column of maxima holds the greatest entry of every row. -/
theorem colMax_apply (d : FVec Ideal (Sq n) .f32) (r : Fin 256) (z : Fin 1) :
    colMax (F := Ideal) hr d (ix2 r z) = top (row d r) := by
  unfold colMax
  pointwise
  rw [ofBits_bot]
  rfl

/-- A round on the block is a round on each row. -/
theorem row_strike (d : FVec Ideal (Sq n) .f32) (r : Fin 256) : row (strike (F := Ideal) hr hb d) r = drop (row d r) := by
  funext k
  have hm : broadcastTo (Sq n) (colMax (F := Ideal) hr d) hb (ix2 r k) = top (row d r) := by
    pointwise
    exact colMax_apply hr d r _
  show Scalar.select (Ideal.cmp .oeq (d (ix2 r k)) (broadcastTo (Sq n) (colMax (F := Ideal) hr d) hb (ix2 r k)))
    (Ideal.ofBits .f32 0xFF800000#32) (d (ix2 r k)) = _
  rw [hm, select_oeq, ofBits_bot]
  rfl

theorem row_after (d : FVec Ideal (Sq n) .f32) (r : Fin 256) (i : ℕ) :
    row (after (F := Ideal) hr hb d i) r = drop^[i] (row d r) := by
  induction i with
  | zero => rfl
  | succ i ih =>
    rw [Function.iterate_succ_apply', ← ih]
    exact row_strike hr hb _ r

/-- The maximum of round `i` is the `i`-th of the row's different values. -/
theorem colMax_after (d : FVec Ideal (Sq n) .f32) (r : Fin 256) (z : Fin 1) (i : ℕ) :
    colMax (F := Ideal) hr (after (F := Ideal) hr hb d i) (ix2 r z) = nth (vals (row d r)) i := by
  rw [colMax_apply, row_after, top_iterate]

theorem row_top8 (d : FVec Ideal (Sq n) .f32) (r : Fin 256) (i : Fin 8) :
    row (top8 (F := Ideal) hr hb d) r i = nth (vals (row d r)) i.val := by
  unfold row top8
  pointwise
  fin_vals i with hi
  all_goals
    simp only [hi, Nat.reduceSub, Nat.reduceLT, ↓reduceDIte]
    exact colMax_after hr hb d r _ _

theorem row_top4 (d : FVec Ideal (Sq n) .f32) (r : Fin 256) (i : Fin 4) :
    row (top4 (F := Ideal) hr hb d) r i = nth (vals (row d r)) i.val := by
  unfold row top4
  pointwise
  fin_vals i with hi
  all_goals
    simp only [hi, Nat.reduceSub, Nat.reduceLT, ↓reduceDIte]
    exact colMax_after hr hb d r _ _

theorem row_top2 (d : FVec Ideal (Sq n) .f32) (r : Fin 256) (i : Fin 2) :
    row (top2 (F := Ideal) hr hb d) r i = nth (vals (row d r)) i.val := by
  unfold row top2
  pointwise
  fin_vals i with hi
  all_goals
    simp only [hi, Nat.reduceSub, Nat.reduceLT, ↓reduceDIte]
    exact colMax_after hr hb d r _ _

/-- So a row of the block of maxima has the first values of the row as its own: eight, -/
theorem vals_top8 (d : FVec Ideal (Sq n) .f32) (r : Fin 256) :
    vals (row (top8 (F := Ideal) hr hb d) r) = tops 8 (vals (row d r)) := vals_nth _ (row_top8 hr hb d r)
/-- four -/
theorem vals_top4 (d : FVec Ideal (Sq n) .f32) (r : Fin 256) :
    vals (row (top4 (F := Ideal) hr hb d) r) = tops 4 (vals (row d r)) := vals_nth _ (row_top4 hr hb d r)
/-- or two. -/
theorem vals_top2 (d : FVec Ideal (Sq n) .f32) (r : Fin 256) :
    vals (row (top2 (F := Ideal) hr hb d) r) = tops 2 (vals (row d r)) := vals_nth _ (row_top2 hr hb d r)

end Reads

/-- Blocks side by side have the values of both. -/
theorem vals_beside8 (a : FVec Ideal S256x8 .f32) (b : FVec Ideal S256x4 .f32) (r : Fin 256) :
    vals (row (beside8 (F := Ideal) a b) r) = vals (row (n := 8) a r) ∪ vals (row (n := 4) b r) := by
  refine vals_pieces (p := 8) (q := 4) rfl _ _ _ (fun i => ?_) fun i => ?_ <;> unfold row beside8 <;> pointwise

theorem vals_beside4 (a : FVec Ideal S256x4 .f32) (b : FVec Ideal S256x2 .f32) (r : Fin 256) :
    vals (row (beside4 (F := Ideal) a b) r) = vals (row (n := 4) a r) ∪ vals (row (n := 2) b r) := by
  refine vals_pieces (p := 4) (q := 2) rfl _ _ _ (fun i => ?_) fun i => ?_ <;> unfold row beside4 <;> pointwise

/-! ## Halves -/

/-- The two halves of `2 h` places. -/
def first {h : ℕ} : Fin h → Fin (h + h) := fun p => ⟨p.val, by omega⟩
def second {h : ℕ} : Fin h → Fin (h + h) := fun p => ⟨h + p.val, by omega⟩

theorem halves (h : ℕ) : Halves (first (h := h)) second where
  inl p q e := Fin.ext (by have := congrArg Fin.val e; exact this)
  inr p q e := Fin.ext (by have : h + p.val = h + q.val := congrArg Fin.val e; omega)
  ne p q e := by have : p.val = h + q.val := congrArg Fin.val e; omega
  cover q := by
    by_cases hq : q.val < h
    · exact .inl ⟨⟨q.val, hq⟩, rfl⟩
    · exact .inr ⟨⟨q.val - h, by omega⟩, Fin.ext (by show h + (q.val - h) = q.val; omega)⟩

theorem row_hi512 (x : FVec Ideal S256x1024 .f32) (r : Fin 256) :
    row (n := 512) (hi512 (F := Ideal) x) r = hi first second (row (n := 1024) x r) := by
  funext k
  unfold row hi512 k0_pay2 k0_pay1 hi first second
  pointwise

theorem row_lo512 (x : FVec Ideal S256x1024 .f32) (r : Fin 256) :
    row (n := 512) (lo512 (F := Ideal) x) r = lo first second (row (n := 1024) x r) := by
  funext k
  unfold row lo512 k0_pay3 k0_pay1 lo first second
  pointwise

theorem row_hi256 (x : FVec Ideal S256x512 .f32) (r : Fin 256) :
    row (n := 256) (hi256 (F := Ideal) x) r = hi first second (row (n := 512) x r) := by
  funext k
  unfold row hi256 hi first second
  pointwise

theorem row_lo256 (x : FVec Ideal S256x512 .f32) (r : Fin 256) :
    row (n := 256) (lo256 (F := Ideal) x) r = lo first second (row (n := 512) x r) := by
  funext k
  unfold row lo256 lo first second
  pointwise

/-- The values that a block keeps of a row are the tournament's. -/
theorem vals_keptCols (x : FVec Ideal S256x1024 .f32) (r : Fin 256) :
    vals (row (n := 8) (keptCols (F := Ideal) x) r)
      = tournament (first (h := 512)) second (first (h := 256)) second (row (n := 1024) x r) := by
  unfold keptCols tournament
  rw [vals_top8, vals_beside8, vals_top8, vals_beside8, vals_top8, vals_top4, vals_top4, vals_beside4, vals_top4, vals_top2,
    row_hi256, row_lo256, row_hi256, row_lo256, row_hi512, row_lo512]

/-- A candidate of device `c` is what it keeps of the row. -/
theorem candOf_apply (x : FVec Ideal S256x1024 .f32) (z : Fin 1) (i : Fin 8) (r : Fin 256) :
    candOf (F := Ideal) x (ix3 z i r) = row (n := 8) (keptCols (F := Ideal) x) r i := by
  rw [candOf_eq]
  pointwise
  rfl

/-! ## The candidates of four devices -/

/-- One column of the candidates. -/
def col (d : FVec Ideal S32x256 .f32) (r : Fin 256) : Fin 32 → EReal := fun k => d (ix2 k r)

theorem rowMax_apply (d : FVec Ideal S32x256 .f32) (z : Fin 1) (r : Fin 256) :
    rowMax (F := Ideal) d (ix2 z r) = top (col d r) := by
  unfold rowMax
  pointwise
  rw [ofBits_bot]
  rfl

theorem col_strikeR (d : FVec Ideal S32x256 .f32) (r : Fin 256) : col (strikeR (F := Ideal) d) r = drop (col d r) := by
  funext k
  have hm : broadcastTo S32x256 (rowMax (F := Ideal) d) broadcasts_S1x256_S32x256 (ix2 k r) = top (col d r) := by
    pointwise
    exact rowMax_apply d _ r
  show Scalar.select (Ideal.cmp .oeq (d (ix2 k r))
    (broadcastTo S32x256 (rowMax (F := Ideal) d) broadcasts_S1x256_S32x256 (ix2 k r)))
    (Ideal.ofBits .f32 0xFF800000#32) (d (ix2 k r)) = _
  rw [hm, select_oeq, ofBits_bot]
  rfl

theorem col_afterR (d : FVec Ideal S32x256 .f32) (r : Fin 256) (i : ℕ) :
    col (afterR (F := Ideal) d i) r = drop^[i] (col d r) := by
  induction i with
  | zero => rfl
  | succ i ih =>
    rw [Function.iterate_succ_apply', ← ih]
    exact col_strikeR _ r

theorem rowMax_afterR (d : FVec Ideal S32x256 .f32) (z : Fin 1) (r : Fin 256) (i : ℕ) :
    rowMax (F := Ideal) (afterR (F := Ideal) d i) (ix2 z r) = nth (vals (col d r)) i := by
  rw [rowMax_apply, col_afterR, top_iterate]

/-- Element `(r, i)` of the result is the `i`-th of the different values among the 32 candidates of the row. -/
theorem outOf_apply (k : FVec Ideal S4x8x256 .f32) (r : Fin 256) (i : Fin 8) :
    outOf (F := Ideal) k (ix2 r i) = nth (vals (col (k0_pay44 (F := Ideal) k) r)) i.val := by
  rw [outOf_eq]
  generalize k0_pay44 (F := Ideal) k = d
  pointwise
  fin_vals i with hi
  all_goals
    simp only [hi, Nat.reduceSub, Nat.reduceLT, ↓reduceDIte]
    exact rowMax_afterR d _ r _

/-- The candidates of a row are the four slots' ones. -/
theorem col_pay44 (k : FVec Ideal S4x8x256 .f32) (r : Fin 256) (q : Fin 32) :
    col (k0_pay44 (F := Ideal) k) r q = k (ix3 ⟨q.val / 8, by omega⟩ ⟨q.val % 8, by omega⟩ r) := by
  unfold col k0_pay44
  pointwise

/-! ## The result of a device -/

section Result

variable (m : (ℓ : Loc nD τ sig) → Buf (Elt Ideal) ℓ) (ρ : Dev nD → PrngReg)

/-- Where entry `k` of device `d`'s block lies in the row. -/
def inRow (d : Dev nD) (k : Fin 1024) : Fin 4096 := ⟨d.val % 4 * 1024 + k.val, by omega⟩

theorem inRow_inj (d : Dev nD) : Function.Injective (inRow d) := fun k l e => by
  have : d.val % 4 * 1024 + k.val = d.val % 4 * 1024 + l.val := congrArg Fin.val e
  exact Fin.ext (by omega)

/-- Some slot of a device comes from the owner of every block of its row of the mesh. -/
theorem origin_cover (c : Dev nD) (z : Fin 4) : ∃ s, (origin s c).val % 4 = z.val := by revert c z; decide +kernel

/-- The row of device `d`'s block. -/
def mine (d : Dev nD) (r : Fin 256) : Fin 1024 → EReal := row (n := 1024) (xstg (F := Ideal) m ρ d) r

/-- The candidates that a device has in the end are those of the four devices of its row. -/
theorem mem_cands (c : Dev nD) (r : Fin 256) (u : EReal) :
    u ∈ vals (col (k0_pay44 (F := Ideal) (full (F := Ideal) m ρ c)) r) ↔
      ∃ s, u ∈ tournament (first (h := 512)) second (first (h := 256)) second (mine m ρ (origin s c) r) := by
  have hk : ∀ q : Fin 32, col (k0_pay44 (F := Ideal) (full (F := Ideal) m ρ c)) r q
      = row (n := 8) (keptCols (F := Ideal) (xstg (F := Ideal) m ρ (origin ⟨q.val / 8, by omega⟩ c))) r ⟨q.val % 8, by omega⟩ :=
    fun q => (col_pay44 _ r q).trans (candOf_apply _ _ _ r)
  have hs : ∀ s, tournament (first (h := 512)) second (first (h := 256)) second (mine m ρ (origin s c) r)
      = vals (row (n := 8) (keptCols (F := Ideal) (xstg (F := Ideal) m ρ (origin s c))) r) := fun s => (vals_keptCols _ r).symm
  simp only [hs, mem_vals, hk]
  constructor
  · rintro ⟨hu, q, hq⟩
    exact ⟨_, hu, _, hq⟩
  · rintro ⟨s, hu, i, hi⟩
    refine ⟨hu, ⟨s.val * 8 + i.val, by omega⟩, ?_⟩
    rw [← hi]
    have e₁ : (⟨(s.val * 8 + i.val) / 8, by omega⟩ : Fin 4) = s := Fin.ext (by show (s.val * 8 + i.val) / 8 = s.val; omega)
    have e₂ : (⟨(s.val * 8 + i.val) % 8, by omega⟩ : Fin 8) = i := Fin.ext (by show (s.val * 8 + i.val) % 8 = i.val; omega)
    dsimp only
    rw [e₁, e₂]

/-- Let `f` be a whole row and the devices' blocks its quarters. If `v` is the `i`-th of the row's different values (or -∞,
with at most `i` values above it) and fewer than eight places of the row exceed it, then `v` is element `(r, i)` of every
device's result. -/
theorem outAt_apply (f : Fin 4096 → EReal) (r : Fin 256) (hf : ∀ d k, mine m ρ d r k = f (inRow d k)) (c : Dev nD)
    (i : Fin 8) (v : EReal) (hp : places v f < 8)
    (hv : (v ∈ vals f ∧ v ≠ ⊥ ∧ above v (vals f) = i.val) ∨ (v = ⊥ ∧ above v (vals f) ≤ i.val)) :
    outAt (F := Ideal) m ρ c (ix2 r i) = v := by
  refine (outOf_apply _ r i).trans (Cov.nth_eq (S := vals f) (fun u hu hb => ?_) (bot_notMem_vals _) hv)
  rw [mem_cands]
  have hd : ∀ d, Cov v (tournament (first (h := 512)) second (first (h := 256)) second (mine m ρ d r)) (vals (mine m ρ d r)) :=
    fun d => cov_tournament (halves 512) (halves 256) (lt_of_le_of_lt
      (Finset.card_le_card_of_injOn (inRow d)
        (fun k hk => Finset.mem_filter.2 ⟨Finset.mem_univ _, hf d k ▸ (Finset.mem_filter.1 hk).2⟩) ((inRow_inj d).injOn)) hp)
  have hs : ∀ s, u ∈ tournament (first (h := 512)) second (first (h := 256)) second (mine m ρ (origin s c) r) ↔
      u ∈ vals (mine m ρ (origin s c) r) := fun s => hd _ u hu hb
  simp only [hs, mem_vals]
  constructor
  · rintro ⟨s, _, k, rfl⟩
    exact ⟨hb, _, (hf _ k).symm⟩
  · rintro ⟨_, q, rfl⟩
    obtain ⟨s, e⟩ := origin_cover c ⟨q.val / 1024, by omega⟩
    refine ⟨s, hb, ⟨q.val % 1024, by omega⟩, (hf _ _).trans (congrArg f (Fin.ext ?_))⟩
    show (origin s c).val % 4 * 1024 + q.val % 1024 = q.val
    rw [e]
    show q.val / 1024 * 1024 + q.val % 1024 = q.val
    omega

end Result

end Cert.KernelIdeal.Run
-- ==== Proof.ReferenceValue.lean ====
/-
What the reference and the mask compute, in the extended reals.

Both sort the negated rows. The reference reads the row at the first eight sorted positions; the mask compares neighbours
of the sorted row.
-/
module

public import proofs.«01_k».proof.Proof.Gen.ReferenceIdeal
public import proofs.«01_k».proof.Proof.Gen.On_leading_distinct
public import proofs.«01_k».proof.Proof.TopMath
public import Idealize.ShloMosaic.Lib.SortFacts
public import Idealize.ShloMosaic.Lib.Pointwise

@[expose] public section

noncomputable section

namespace Cert.ReferenceValue

open Cert.ReferenceIdeal Cert.ReferenceIdeal.Gen Cert.TopMath
open Idealize.ShloMosaic

/-! ## The order of a row -/

/-- Choosing zero where a number is zero and the number elsewhere chooses the number. -/
theorem select_zero (x : EReal) : Scalar.select (Ideal.cmp .oeq x 0) 0 x = x := by
  by_cases h : x = 0 <;> simp [Scalar.select, Ideal.cmp, h]

/-- A number is never different from itself. -/
theorem select_une (x a b : EReal) : Scalar.select (Ideal.cmp .une x x) a b = b := by
  simp [Scalar.select, Ideal.cmp]

/-- The reference's comparator is "less" on the keys, -/
theorem comparator_eq (l r : EReal × BitVec 32) :
    comparator_f32_i32_d1 (F := Ideal) l r = BitVec.ofBool (decide (l.1 < r.1)) := by
  show Ideal.cmp .olt
    (Scalar.select (Ideal.cmp .une l.1 l.1) (Ideal.ofBits .f32 0x7FC00000#32)
      (Scalar.select (Ideal.cmp .oeq l.1 (Ideal.ofBits .f32 0#32)) (Ideal.ofBits .f32 0#32) l.1))
    (Scalar.select (Ideal.cmp .une r.1 r.1) (Ideal.ofBits .f32 0x7FC00000#32)
      (Scalar.select (Ideal.cmp .oeq r.1 (Ideal.ofBits .f32 0#32)) (Ideal.ofBits .f32 0#32) r.1)) = _
  have z : Ideal.ofBits .f32 0#32 = (0 : EReal) := by simp [Ideal.ofBits, Ideal.ieee]
  rw [select_une, select_une, z, select_zero, select_zero]
  rfl

/-- and so is the mask's. -/
theorem comparator_mask (l r : EReal) :
    Cert.On_leading_distinct.comparator_f32_d1 (F := Ideal) l r = BitVec.ofBool (decide (l < r)) :=
  comparator_eq (l, 0#32) (r, 0#32)

/-- The positions of a row in the order of its negated entries. -/
def order {n : ℕ} (f : Fin n → EReal) : Fin n → Fin n := sortedFrom fun k k' => decide (-f k < -f k')

theorem order_surjective {n : ℕ} (f : Fin n → EReal) : Function.Surjective (order f) := sortedFrom_surjective _

/-- In that order the entries descend. -/
theorem order_desc {n : ℕ} (f : Fin n → EReal) (i j : Fin n) (h : i ≤ j) : f (order f j) ≤ f (order f i) := by
  rcases h.eq_or_lt with rfl | h
  · exact le_rfl
  have := sortedFrom_noInversion (fun k k' => decide (-f k < -f k')) (fun k k' => decide (-f k < -f k'))
    (fun a b h => by simpa using (of_decide_eq_true h).le) (fun _ _ h => h)
    (fun a b c h h' => by
      simp only [decide_eq_false_iff_not, not_lt] at h h' ⊢
      exact h'.trans h) i j h
  simp only [decide_eq_false_iff_not, not_lt] at this
  exact EReal.neg_le_neg_iff.1 this

/-- One row of the whole array. -/
def whole (X : FVec Ideal S256x4096 .f32) (r : Fin 256) : Fin 4096 → EReal := fun k => X (ix2 r k)

/-- Position `k'` of the axis along which row `r` lies. -/
theorem along_row (r : Fin 256) (k k' : Fin 4096) :
    Shape.Idx.along (s := S256x4096) (ix2 r k) (1 : Fin 2) k' = (ix2 r k' : S256x4096.Idx) := by
  funext a
  match a with
  | ⟨0, _⟩ => rfl
  | ⟨1, _⟩ => rfl

theorem ofBool_beq (b : Bool) : (BitVec.ofBool b == 1#1) = b := by cases b <;> rfl

/-- The reference's sorted positions are the row's order, -/
theorem sort2_apply (X : FVec Ideal S256x4096 .f32) (r : Fin 256) (k : Fin 4096) :
    (Host.sort2 S256x4096 1 (comparator_f32_i32_d1 (F := Ideal)) (Host.negf X) (iotaInDim S256x4096 32 1)).2 (ix2 r k)
      = BitVec.ofNat 32 (order (whole X r) k).val := by
  have hB : (fun q q' : Fin 4096 => comparator_f32_i32_d1 (F := Ideal)
      (Host.negf X (Shape.Idx.along (s := S256x4096) (ix2 r k) (1 : Fin 2) q),
        iotaInDim S256x4096 32 1 (Shape.Idx.along (s := S256x4096) (ix2 r k) (1 : Fin 2) q))
      (Host.negf X (Shape.Idx.along (s := S256x4096) (ix2 r k) (1 : Fin 2) q'),
        iotaInDim S256x4096 32 1 (Shape.Idx.along (s := S256x4096) (ix2 r k) (1 : Fin 2) q')) == 1#1)
      = fun q q' => decide (-(whole X r q) < -(whole X r q')) := by
    funext q q'
    rw [along_row, along_row]
    exact (congrArg (· == 1#1) (comparator_eq _ _)).trans (ofBool_beq _)
  refine (congrArg (fun B => iotaInDim S256x4096 32 1
    (Shape.Idx.along (s := S256x4096) (ix2 r k) (1 : Fin 2) (sortedFrom (n := 4096) B k))) hB).trans ?_
  rw [along_row]
  rfl

/-- and the mask's sorted row is the negated row in that order. -/
theorem sort_apply (X : FVec Ideal S256x4096 .f32) (r : Fin 256) (k : Fin 4096) :
    Host.sort S256x4096 1 (Cert.On_leading_distinct.comparator_f32_d1 (F := Ideal)) (Host.negf X) (ix2 r k)
      = -(whole X r (order (whole X r) k)) := by
  have hB : (fun q q' : Fin 4096 => Cert.On_leading_distinct.comparator_f32_d1 (F := Ideal)
      (Host.negf X (Shape.Idx.along (s := S256x4096) (ix2 r k) (1 : Fin 2) q))
      (Host.negf X (Shape.Idx.along (s := S256x4096) (ix2 r k) (1 : Fin 2) q')) == 1#1)
      = fun q q' => decide (-(whole X r q) < -(whole X r q')) := by
    funext q q'
    rw [along_row, along_row]
    exact (congrArg (· == 1#1) (comparator_mask _ _)).trans (ofBool_beq _)
  refine (congrArg (fun B => Host.negf X
    (Shape.Idx.along (s := S256x4096) (ix2 r k) (1 : Fin 2) (sortedFrom (n := 4096) B k))) hB).trans ?_
  rw [along_row]
  rfl

/-! ## The gather -/

/-- A position of a row read as a signed word is itself. -/
theorem small_toInt (p : Fin 4096) : (BitVec.ofNat 32 p.val).toInt = p.val := by
  rw [BitVec.toInt_ofNat']
  have := p.isLt
  simp only [Int.bmod]
  omega

/-- A conjunction over a set holds when every term holds. -/
theorem fold_and {ι : Type} (f : ι → BitVec 1) (s : Finset ι) :
    s.fold IntOp.andi 1#1 f = 1#1 ↔ ∀ x ∈ s, f x = 1#1 := by
  classical
  have two : ∀ a b : BitVec 1, IntOp.andi a b = 1#1 ↔ a = 1#1 ∧ b = 1#1 := by decide
  induction s using Finset.induction_on with
  | empty => simp
  | insert a s ha ih =>
    rw [Finset.fold_insert ha, Finset.forall_mem_insert]
    exact (two _ _).trans (and_congr_right fun _ => ih)

/-- The gather reads, for element `(r, j)`, the row `r` at the position that the table holds. -/
theorem gather_apply (X : FVec Ideal S256x4096 .f32) (J : IVec S256x8x1 32) (r : Fin 256) (j : Fin 8) (p : Fin 4096)
    (h : J (ix3 r j 0) = BitVec.ofNat 32 p.val) :
    Host.gather gather_S256x4096_S256x8x1_S256x8_n_1_0_0_1_2_11 X J (ix2 r j) = X (ix2 r p) := by
  have h0 : GatherDims.start gather_S256x4096_S256x8x1_S256x8_n_1_0_0_1_2_11 (ix2 r j) J (0 : Fin 2) = 0 :=
    GatherDims.start_batching _ _ _ _ (by decide)
  have h1 : GatherDims.batchCoord gather_S256x4096_S256x8x1_S256x8_n_1_0_0_1_2_11 (ix2 r j) (0 : Fin 2) = r.val := rfl
  have h2 : GatherDims.start gather_S256x4096_S256x8x1_S256x8_n_1_0_0_1_2_11 (ix2 r j) J (1 : Fin 2)
      = min (J (ix3 r j 0)).toInt.toNat 4095 := by
    refine congrArg (fun i => min (J i).toInt.toNat 4095) (funext fun a => ?_)
    match a with
    | ⟨0, _⟩ => rfl
    | ⟨1, _⟩ => rfl
    | ⟨2, _⟩ => rfl
  have h3 : GatherDims.batchCoord gather_S256x4096_S256x8x1_S256x8_n_1_0_0_1_2_11 (ix2 r j) (1 : Fin 2) = 0 := rfl
  have h4 (a : Fin 2) : GatherDims.offCoord gather_S256x4096_S256x8x1_S256x8_n_1_0_0_1_2_11 (ix2 r j) a = 0 :=
    GatherDims.offCoord_eq_zero _ _ _ (by revert a; decide)
  unfold Host.gather
  refine congrArg X (funext fun a => Fin.ext ?_)
  match a with
  | ⟨0, _⟩ =>
    refine (congrArg₂ (· + ·) (congrArg₂ (· + ·) h0 h1) (h4 0)).trans ?_
    exact Nat.zero_add _
  | ⟨1, _⟩ =>
    refine (congrArg₂ (· + ·) (congrArg₂ (· + ·) h2 h3) (h4 1)).trans ?_
    rw [h]
    show min (BitVec.ofNat 32 p.val).toInt.toNat 4095 + 0 + 0 = p.val
    rw [small_toInt]
    have := p.isLt
    omega

/-! ## The reference's result -/

/-- The first eight sorted positions of every row, -/
def positions (X : FVec Ideal S256x4096 .f32) : IVec S256x8 32 :=
  extractStridedSlice S256x8 ![0, 0]
    ((Host.sort2 S256x4096 1 (comparator_f32_i32_d1 (F := Ideal)) (Host.negf X) (iotaInDim S256x4096 32 1)).2)
    slices_S256x4096_S256x8_0_0

/-- the same as a table for the gather (a negative position would count from the end), -/
def starts (X : FVec Ideal S256x4096 .f32) : IVec S256x8x1 32 :=
  shapeCast S256x8x1 (select (cmpi .slt (positions X) (broadcastInDim S256x8 ![] bcast_S_S256x8 (constantI S_ 32 0#32)))
    (addi (positions X) (broadcastInDim S256x8 ![] bcast_S_S256x8 (constantI S_ 32 4096#32))) (positions X))
    shapeCasts_S256x8_S256x8x1

/-- which of them lie in the row, -/
def inside (X : FVec Ideal S256x4096 .f32) : IVec S256x8 1 :=
  Host.reduce IntOp.andi (andi (cmpi .sge (starts X) (broadcastInDim S256x8x1 ![] bcast_S_S256x8x1 (constantI S_ 32 0#32)))
    (cmpi .sle (starts X) (broadcastInDim S256x8x1 ![0, 1, 2] bcast_S1x1x1_S256x8x1_0_1_2
      (broadcastInDim S1x1x1 ![2] bcast_S1_S1x1x1_2 (constantI S1 32 4095#32))))) (constantI S_ 1 1#1)
    reducesTo_S256x8x1_S256x8_d2 h_S_

/-- and the result. -/
def result (X : FVec Ideal S256x4096 .f32) : FVec Ideal S256x8 .f32 :=
  select (inside X) (Host.gather gather_S256x4096_S256x8x1_S256x8_n_1_0_0_1_2_11 X (starts X))
    (broadcastInDim S256x8 ![] bcast_S_S256x8 (constant (F := Ideal) S_ .f32 0x7FC00000#32))

/-- Result column `j` as a place of the row. -/
def place (j : Fin 8) : Fin 4096 := ⟨j.val, by omega⟩

theorem positions_apply (X : FVec Ideal S256x4096 .f32) (r : Fin 256) (j : Fin 8) :
    positions X (ix2 r j) = BitVec.ofNat 32 (order (whole X r) (place j)).val := by
  rw [← sort2_apply]
  unfold positions
  generalize (Host.sort2 S256x4096 1 (comparator_f32_i32_d1 (F := Ideal)) (Host.negf X) (iotaInDim S256x4096 32 1)).2 = v
  pointwise
  rfl

/-- A position is not negative, -/
theorem small_slt (p : Fin 4096) : IntOp.cmpi .slt (BitVec.ofNat 32 p.val) 0#32 = 0#1 := by
  rw [IntOp.cmpi, BitVec.slt_eq_decide, small_toInt]
  exact congrArg BitVec.ofBool (decide_eq_false (not_lt.2 (Int.natCast_nonneg _)))
/-- so it is at least 0, -/
theorem small_sge (p : Fin 4096) : IntOp.cmpi .sge (BitVec.ofNat 32 p.val) 0#32 = 1#1 := by
  rw [IntOp.cmpi, BitVec.sle_eq_decide, small_toInt]
  simp
/-- and it is at most 4095. -/
theorem small_sle (p : Fin 4096) : IntOp.cmpi .sle (BitVec.ofNat 32 p.val) 4095#32 = 1#1 := by
  rw [IntOp.cmpi, BitVec.sle_eq_decide, small_toInt]
  have := p.isLt
  have e : ((4095#32 : BitVec 32).toInt) = 4095 := by decide
  rw [e, decide_eq_true (by omega)]
  rfl

theorem starts_apply (X : FVec Ideal S256x4096 .f32) (r : Fin 256) (j : Fin 8) (z : Fin 1) :
    starts X (ix3 r j z) = BitVec.ofNat 32 (order (whole X r) (place j)).val := by
  have h := positions_apply X r j
  unfold starts
  pointwise
  rw [h, small_slt]
  rfl

theorem inside_apply (X : FVec Ideal S256x4096 .f32) (r : Fin 256) (j : Fin 8) : inside X (ix2 r j) = 1#1 := by
  have h := starts_apply X r j
  unfold inside
  pointwise
  refine (fold_and _ _).2 fun x _ => ?_
  rw [h x, small_sge, small_sle]
  rfl

/-- Element `(r, j)` of the reference's result is the row's entry at its sorted position `j`. -/
theorem result_apply (X : FVec Ideal S256x4096 .f32) (r : Fin 256) (j : Fin 8) :
    result X (ix2 r j) = whole X r (order (whole X r) (place j)) := by
  show Scalar.select (inside X (ix2 r j)) (Host.gather gather_S256x4096_S256x8x1_S256x8_n_1_0_0_1_2_11 X (starts X) (ix2 r j)) _ = _
  rw [inside_apply, gather_apply X _ r j _ (starts_apply X r j 0)]
  rfl

/-! ## The mask -/

/-- Where the mask holds of element `(r, j)`, the row's sorted entry `j` is -∞, or of any two neighbours up to `j` the
entries are different or the first is -∞. -/
theorem mask_apply (X : FVec Ideal S256x4096 .f32) (r : Fin 256) (j : Fin 8)
    (h : Cert.On_leading_distinct.fn (F := Ideal) X (ix2 r j) = 1#1) :
    whole X r (order (whole X r) (place j)) = ⊥ ∨ ∀ i : Fin 7, i.val < j.val →
      whole X r (order (whole X r) ⟨i.val, by omega⟩) ≠ whole X r (order (whole X r) ⟨i.val + 1, by omega⟩) ∨
        whole X r (order (whole X r) ⟨i.val, by omega⟩) = ⊥ := by
  have hs := sort_apply X r
  have ht : Ideal.ofBits .f32 0x7F800000#32 = ⊤ := by simp [Ideal.ofBits, Ideal.ieee]
  have one : ∀ a b : BitVec 1, IntOp.ori a b = 1#1 → b = 1#1 ∨ a = 1#1 := by decide
  have bool : ∀ b : Bool, BitVec.ofBool b = 1#1 → b = true := by decide
  unfold Cert.On_leading_distinct.fn Cert.On_leading_distinct.fn_sort at h
  dsimp only at h
  generalize Host.sort S256x4096 1 (Cert.On_leading_distinct.comparator_f32_d1 (F := Ideal)) (Host.negf X) = v at h hs
  pointwise at h
  refine (one _ _ h).imp (fun hb => EReal.neg_eq_top_iff.1 ?_) fun h i hi => ?_
  · rw [← ht]
    exact (hs (place j)).symm.trans (of_decide_eq_true (bool _ hb))
  have hx := (fold_and _ _).1 h i (Finset.mem_univ i)
  have hlt : IntOp.cmpi .sge (BitVec.ofNat 32 i.val) (BitVec.ofNat 32 j.val) = 0#1 := by
    have hi' := small_toInt ⟨i.val, by omega⟩
    have hj' := small_toInt ⟨j.val, by omega⟩
    dsimp only at hi' hj'
    rw [IntOp.cmpi, BitVec.sle_eq_decide, hi', hj', decide_eq_false (by omega)]
    rfl
  have two : ∀ a b : Bool, IntOp.ori (IntOp.ori (BitVec.ofBool a) (BitVec.ofBool b)) 0#1 = 1#1 → a = true ∨ b = true := by
    decide
  rw [hlt] at hx
  rcases two _ _ hx with hn | hb
  · refine .inl fun e => of_decide_eq_true hn ((hs ⟨i.val, by omega⟩).trans ?_)
    rw [e]
    refine ((hs ⟨i.val + 1, by omega⟩).symm.trans (congrArg (fun k => v (ix2 r k)) (Fin.ext ?_)))
    exact Nat.add_comm _ _
  · refine .inr (EReal.neg_eq_top_iff.1 ?_)
    rw [← ht]
    exact (hs ⟨i.val, by omega⟩).symm.trans (of_decide_eq_true hb)

end Cert.ReferenceValue
-- ==== Proof.Algebraic.lean ====
/-
The value claim: where the mask holds, every device's result is the reference's.
-/
module

public import proofs.«01_k».proof.Defs
public import proofs.«01_k».proof.Proof.Gen.ReferenceIdeal.Run
public import proofs.«01_k».proof.Proof.KernelIdealLaunch
public import proofs.«01_k».proof.Proof.KernelIdealValue
public import proofs.«01_k».proof.Proof.ReferenceValue

@[expose] public section

noncomputable section

namespace Cert.Algebraic

open Cert.TopMath Cert.ReferenceValue
open Idealize.ShloMosaic Idealize.SL.Sem

section Blocks

variable (m : (ℓ : Loc Cert.KernelIdeal.nD Cert.KernelIdeal.τ Cert.KernelIdeal.sig) → Buf (Elt Ideal) ℓ)
  (ρ : Dev Cert.KernelIdeal.nD → PrngReg) (X : FVec Ideal ⟨2, ![256, 4096]⟩ .f32)
  (hX : ∀ c : Dev Cert.KernelIdeal.nD,
    m ((c.tc : Thread Cert.KernelIdeal.nD Cert.KernelIdeal.τ).loc Cert.KernelIdeal.main_arg0)
      = Layout.blockN ⟨2, ![256, 1024]⟩ ⟨2, ![256, 4096]⟩ (Layout.meshBlock [2, 4, 4] ![[], [2]] c) X)

include hX

/-- A device's block of a row is the quarter of the row that its last mesh coordinate names. -/
theorem mine_eq (d : Dev Cert.KernelIdeal.nD) (r : Fin 256) (k : Fin 1024) :
    Cert.KernelIdeal.Run.mine m ρ d r k = whole X r (Cert.KernelIdeal.Run.inRow d k) := by
  show Cert.KernelIdeal.Run.xstg (F := Ideal) m ρ d (ix2 r k) = X (ix2 r (Cert.KernelIdeal.Run.inRow d k))
  rw [Cert.KernelIdeal.Run.xstg_eq, hX d]
  refine congrArg X (funext fun a => Fin.ext ?_)
  match a with
  | ⟨0, _⟩ => exact Nat.zero_add _
  | ⟨1, _⟩ =>
    have hb : Layout.meshLin [2, 4, 4] d.val [2] = d.val % 4 := by
      simp [Layout.meshLin, Layout.meshCoord, Layout.cutSize]
    show Layout.meshLin [2, 4, 4] d.val [2] * 1024 + k.val = d.val % 4 * 1024 + k.val
    rw [hb]

/-- Where the mask holds, a device's result is the reference's. -/
theorem out_eq (c : Dev Cert.KernelIdeal.nD) (i : (⟨2, ![256, 8]⟩ : Shape).Idx)
    (h : Cert.On_leading_distinct.fn (F := Ideal) X i = 1#1) :
    Cert.KernelIdeal.Run.outAt (F := Ideal) m ρ c i = result X i := by
  obtain ⟨r, j, rfl⟩ : ∃ (r : Fin 256) (j : Fin 8), i = ix2 r j :=
    ⟨i 0, i 1, funext fun a => match a with | ⟨0, _⟩ => rfl | ⟨1, _⟩ => rfl⟩
  rw [result_apply]
  have hp := places_sorted (order_surjective (whole X r)) (order_desc _) (place j)
  refine Cert.KernelIdeal.Run.outAt_apply m ρ (whole X r) r (fun d k => mine_eq m ρ X hX d r k) c j _
    (lt_of_le_of_lt hp j.isLt) ?_
  rcases mask_apply X r j h with hb | hn
  · exact .inr ⟨hb, (above_vals_le _ _).trans hp⟩
  · refine above_sorted (order_surjective _) (order_desc _) (place j) fun q q' hq hj => ?_
    have hj' : q'.val ≤ j.val := hj
    have e : q' = ⟨q.val + 1, by omega⟩ := Fin.ext hq
    rw [e]
    exact hn ⟨q.val, by omega⟩ (by show q.val < j.val; omega)

end Blocks

/-- The value claim. -/
theorem algebraic : algebraic_KernelIdeal_ReferenceIdeal_on_leading_distinct := by
  intro m g m' g' _ hX
  refine ⟨result (m' (((0 : Dev Cert.ReferenceIdeal.nD).tc : Thread Cert.ReferenceIdeal.nD Cert.ReferenceIdeal.τ).loc
    Cert.ReferenceIdeal.main_arg0)), ?_, ?_⟩
  · refine (θ_run _ _ _).mono (fun r h c => ?_) (Cert.KernelIdeal.Run.run_main m g)
    refine ⟨fun i hi => ?_, (h.1 c 0).trans (Cert.KernelIdeal.Run.finalA_x m g c)⟩
    exact (congrFun ((h.1 c 1).trans (Cert.KernelIdeal.Run.finalA_o m g c)) i).trans (out_eq m g _ hX c i hi)
  · refine (θ_run _ _ _).mono (fun r h => ?_) (Cert.ReferenceIdeal.Value.run (F := Ideal) m' g')
    exact ⟨fun i _ => congrFun (h 0).1 i, (h 0).2⟩

end Cert.Algebraic

end
-- ==== Proof.lean ====
/-
The certificate's claims, put together from the modules beside this one.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_leading_distinct
public import proofs.«01_k».proof.Proof.Gen.ReferenceIdeal.Run
public import proofs.«01_k».proof.Proof.KernelLaunch
public import proofs.«01_k».proof.Proof.KernelIdealLaunch
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference ends with its argument unchanged; it has no semaphores. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run _ _ _).mono (fun r h => ⟨fun c => (h c).2, sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts, Cert.On_leading_distinct.Gen.facts,
  fun m g _ => Cert.Kernel.Run.run_frame m g, fun m g _ => Cert.KernelIdeal.Run.run_frame m g, fun m g _ => frame_reference m g, trivial, Cert.Algebraic.algebraic⟩

end Cert.Proof

end
